-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S8x19x512x512 : Shape := ⟨4, ![8, 19, 512, 512]⟩
abbrev S8x512x512 : Shape := ⟨3, ![8, 512, 512]⟩
abbrev S_ : Shape := ⟨0, ![]⟩

class Facts : Prop where
  bcast_S8x512x512_S8x19x512x512_0_2_3 : S8x512x512.BroadcastsInDim S8x19x512x512 (![0, 2, 3] : Fin 3 → Fin S8x19x512x512.rank)
  bcast_S_S8x19x512x512 : S_.BroadcastsInDim S8x19x512x512 (![] : Fin 0 → Fin S8x19x512x512.rank)
  reducesTo_S8x19x512x512_S8x512x512_d1 : S8x19x512x512.ReducesTo [1] S8x512x512
  h_S_ : 0 < S_.numel

variable [Facts]

def fn_part1 {F : FTy → Type} [FloatOps F] (main_arg0 : FVec F S8x19x512x512 .f32) (main_v0 : IVec S8x19x512x512 32) (main_v1 : IVec S8x19x512x512 32) (main_v4 : FVec F S8x19x512x512 .f32) (main_v8 : FVec F S8x19x512x512 .f32) (main_v16 : IVec S8x19x512x512 1) (main_cst_4 : FVec F S_ .f32) : IVec S8x19x512x512 1 :=
  let main_v17 : FVec F S8x19x512x512 .f32 := broadcastInDim S8x19x512x512 ![] bcast_S_S8x19x512x512 main_cst_4
  let main_v18 : IVec S8x19x512x512 1 := cmpf .olt main_v8 main_v17
  let main_v19 : IVec S8x19x512x512 1 := andi main_v16 main_v18
  let main_v20 : IVec S8x19x512x512 1 := cmpf .olt main_arg0 main_v4
  let main_v21 : IVec S8x19x512x512 1 := cmpi .sge main_v0 main_v1
  let main_v22 : IVec S8x19x512x512 1 := ori main_v20 main_v21
  let main_v23 : IVec S8x19x512x512 1 := cmpf .olt main_v8 main_v4
  let main_v24 : IVec S8x19x512x512 1 := ori main_v22 main_v23
  let main_v25 : IVec S8x19x512x512 1 := andi main_v19 main_v24
  main_v25

def fn {F : FTy → Type} [FloatOps F] (main_arg0 : FVec F S8x19x512x512 .f32) (main_arg1 : IVec S8x512x512 32) : IVec S8x19x512x512 1 :=
  let main_v0 : IVec S8x19x512x512 32 := iotaInDim S8x19x512x512 32 1
  let main_v1 : IVec S8x19x512x512 32 := broadcastInDim S8x19x512x512 ![0, 2, 3] bcast_S8x512x512_S8x19x512x512_0_2_3 main_arg1
  let main_cst : FVec F S_ .f32 := constant S_ .f32 0xFF800000#32
  let main_v2 : FVec F S8x19x512x512 .f32 := broadcastInDim S8x19x512x512 ![] bcast_S_S8x19x512x512 main_cst
  let main_cst_0 : FVec F S_ .f32 := constant S_ .f32 0xFF800000#32
  let main_v3 : FVec F S8x512x512 .f32 := (fun x v => Host.reduce FloatOps.maximumf x v reducesTo_S8x19x512x512_S8x512x512_d1 h_S_) main_arg0 main_cst_0
  let main_v4 : FVec F S8x19x512x512 .f32 := broadcastInDim S8x19x512x512 ![0, 2, 3] bcast_S8x512x512_S8x19x512x512_0_2_3 main_v3
  let main_v5 : IVec S8x19x512x512 1 := cmpi .eq main_v0 main_v1
  let main_v6 : FVec F S8x19x512x512 .f32 := select main_v5 main_arg0 main_v2
  let main_cst_1 : FVec F S_ .f32 := constant S_ .f32 0xFF800000#32
  let main_v7 : FVec F S8x512x512 .f32 := (fun x v => Host.reduce FloatOps.maximumf x v reducesTo_S8x19x512x512_S8x512x512_d1 h_S_) main_v6 main_cst_1
  let main_v8 : FVec F S8x19x512x512 .f32 := broadcastInDim S8x19x512x512 ![0, 2, 3] bcast_S8x512x512_S8x19x512x512_0_2_3 main_v7
  let main_c : IVec S_ 32 := constantI S_ 32 0#32
  let main_v9 : IVec S8x19x512x512 32 := broadcastInDim S8x19x512x512 ![] bcast_S_S8x19x512x512 main_c
  let main_v10 : IVec S8x19x512x512 1 := cmpi .sge main_v1 main_v9
  let main_c_2 : IVec S_ 32 := constantI S_ 32 19#32
  let main_v11 : IVec S8x19x512x512 32 := broadcastInDim S8x19x512x512 ![] bcast_S_S8x19x512x512 main_c_2
  let main_v12 : IVec S8x19x512x512 1 := cmpi .slt main_v1 main_v11
  let main_v13 : IVec S8x19x512x512 1 := andi main_v10 main_v12
  let main_cst_3 : FVec F S_ .f32 := constant S_ .f32 0xFF800000#32
  let main_v14 : FVec F S8x19x512x512 .f32 := broadcastInDim S8x19x512x512 ![] bcast_S_S8x19x512x512 main_cst_3
  let main_v15 : IVec S8x19x512x512 1 := cmpf .ogt main_v4 main_v14
  let main_v16 : IVec S8x19x512x512 1 := andi main_v13 main_v15
  let main_cst_4 : FVec F S_ .f32 := constant S_ .f32 0x7F800000#32
  fn_part1 (F := F) main_arg0 main_v0 main_v1 main_v4 main_v8 main_v16 main_cst_4
-- ==== Kernel.lean ====
abbrev S8x19x512x512 : Shape := ⟨4, ![8, 19, 512, 512]⟩
abbrev S8x512x512 : Shape := ⟨3, ![8, 512, 512]⟩
abbrev S1x1 : Shape := ⟨2, ![1, 1]⟩
abbrev S1x19x64x512 : Shape := ⟨4, ![1, 19, 64, 512]⟩
abbrev S1x64x512 : Shape := ⟨3, ![1, 64, 512]⟩
abbrev S19x8x128 : Shape := ⟨3, ![19, 8, 128]⟩
abbrev S1x16x512 : Shape := ⟨3, ![1, 16, 512]⟩
abbrev S16x512 : Shape := ⟨2, ![16, 512]⟩
abbrev S1x1x16x512 : Shape := ⟨4, ![1, 1, 16, 512]⟩
abbrev S1x8x128 : Shape := ⟨3, ![1, 8, 128]⟩
abbrev S8x128 : Shape := ⟨2, ![8, 128]⟩
abbrev S8x512 : Shape := ⟨2, ![8, 512]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 7
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S1x1, .f32⟩
  | .hbm, ⟨3, _⟩ => ⟨S_, .f32⟩
  | .local _ .vmem, ⟨0, _⟩ => ⟨S1x19x64x512, .f32⟩
  | .local _ .vmem, ⟨1, _⟩ => ⟨S1x19x64x512, .f32⟩
  | .local _ .vmem, ⟨2, _⟩ => ⟨S1x64x512, .i32⟩
  | .local _ .vmem, ⟨3, _⟩ => ⟨S1x64x512, .i32⟩
  | .local _ .vmem, ⟨4, _⟩ => ⟨S1x1, .f32⟩
  | .local _ .vmem, ⟨5, _⟩ => ⟨S19x8x128, .i32⟩
  | .local _ .vmem, ⟨6, _⟩ => ⟨S19x8x128, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v3543 : BitVec 1 := Scalar.cmpi .eq arg0 c63_i32
  let v3544 : BitVec 32 := Scalar.extui v3543
  let c0_i32_1512 : BitVec 32 := 0#32
  let v3545 : BitVec 1 := Scalar.cmpi .ne v3544 c0_i32_1512
  v3545

def cc0_transform_0 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x19x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S2097152 : Shape := ⟨1, ![2097152]⟩
abbrev S19 : Shape := ⟨1, ![19]⟩
abbrev S2097152x1 : Shape := ⟨2, ![2097152, 1]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S8x512x512x1 : Shape := ⟨4, ![8, 512, 512, 1]⟩

abbrev nBuf : Space → Nat
  | .hbm => 114
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x19x512x512, .i32⟩
  | .hbm, ⟨3, _⟩ => ⟨S_, .f32⟩
  | .hbm, ⟨4, _⟩ => ⟨S_, .i32⟩
  | .hbm, ⟨5, _⟩ => ⟨S8x512x512, .f32⟩
  | .hbm, ⟨6, _⟩ => ⟨S8x512x512, .i32⟩
  | .hbm, ⟨7, _⟩ => ⟨S8x512x512, .i1⟩
  | .hbm, ⟨8, _⟩ => ⟨S2097152, .i1⟩
  | .hbm, ⟨9, _⟩ => ⟨S2097152, .i32⟩
  | .hbm, ⟨10, _⟩ => ⟨S_, .i32⟩
  | .hbm, ⟨11, _⟩ => ⟨S19, .i32⟩
  | .hbm, ⟨12, _⟩ => ⟨S_, .i32⟩
  | .hbm, ⟨13, _⟩ => ⟨S_, .i32⟩
  | .hbm, ⟨14, _⟩ => ⟨S2097152, .i32⟩
  | .hbm, ⟨15, _⟩ => ⟨S2097152, .i32⟩
  | .hbm, ⟨16, _⟩ => ⟨S_, .i32⟩
  | .hbm, ⟨17, _⟩ => ⟨S2097152, .i32⟩
  | .hbm, ⟨18, _⟩ => ⟨S2097152, .i1⟩
  | .hbm, ⟨19, _⟩ => ⟨S_, .i32⟩
  | .hbm, ⟨20, _⟩ => ⟨S2097152, .i32⟩
  | .hbm, ⟨21, _⟩ => ⟨S2097152, .i32⟩
  | .hbm, ⟨22, _⟩ => ⟨S2097152, .i32⟩
  | .hbm, ⟨23, _⟩ => ⟨S2097152x1, .i32⟩
  | .hbm, ⟨24, _⟩ => ⟨S_, .i32⟩
  | .hbm, ⟨25, _⟩ => ⟨S2097152, .i32⟩
  | .hbm, ⟨26, _⟩ => ⟨S19, .i32⟩
  | .hbm, ⟨27, _⟩ => ⟨S_, .i32⟩
  | .hbm, ⟨28, _⟩ => ⟨S19, .i32⟩
  | .hbm, ⟨29, _⟩ => ⟨S19, .i1⟩
  | .hbm, ⟨30, _⟩ => ⟨S19, .f32⟩
  | .hbm, ⟨31, _⟩ => ⟨S_, .f32⟩
  | .hbm, ⟨32, _⟩ => ⟨S19, .f32⟩
  | .hbm, ⟨33, _⟩ => ⟨S19, .f32⟩
  | .hbm, ⟨34, _⟩ => ⟨S2097152, .f32⟩
  | .hbm, ⟨35, _⟩ => ⟨S_, .f32⟩
  | .hbm, ⟨36, _⟩ => ⟨S19, .f32⟩
  | .hbm, ⟨37, _⟩ => ⟨S_, .i32⟩
  | .hbm, ⟨38, _⟩ => ⟨S_, .i32⟩
  | .hbm, ⟨39, _⟩ => ⟨S2097152, .i32⟩
  | .hbm, ⟨40, _⟩ => ⟨S2097152, .i32⟩
  | .hbm, ⟨41, _⟩ => ⟨S_, .i32⟩
  | .hbm, ⟨42, _⟩ => ⟨S2097152, .i32⟩
  | .hbm, ⟨43, _⟩ => ⟨S2097152, .i1⟩
  | .hbm, ⟨44, _⟩ => ⟨S_, .i32⟩
  | .hbm, ⟨45, _⟩ => ⟨S2097152, .i32⟩
  | .hbm, ⟨46, _⟩ => ⟨S2097152, .i32⟩
  | .hbm, ⟨47, _⟩ => ⟨S2097152, .i32⟩
  | .hbm, ⟨48, _⟩ => ⟨S2097152x1, .i32⟩
  | .hbm, ⟨49, _⟩ => ⟨S19, .f32⟩
  | .hbm, ⟨50, _⟩ => ⟨S_, .f32⟩
  | .hbm, ⟨51, _⟩ => ⟨S19, .f32⟩
  | .hbm, ⟨52, _⟩ => ⟨S19, .i1⟩
  | .hbm, ⟨53, _⟩ => ⟨S_, .f32⟩
  | .hbm, ⟨54, _⟩ => ⟨S19, .f32⟩
  | .hbm, ⟨55, _⟩ => ⟨S19, .f32⟩
  | .hbm, ⟨56, _⟩ => ⟨S_, .f32⟩
  | .hbm, ⟨57, _⟩ => ⟨S19, .f32⟩
  | .hbm, ⟨58, _⟩ => ⟨S19, .f32⟩
  | .hbm, ⟨59, _⟩ => ⟨S19, .f32⟩
  | .hbm, ⟨60, _⟩ => ⟨S_, .f32⟩
  | .hbm, ⟨61, _⟩ => ⟨S8x512x512, .f32⟩
  | .hbm, ⟨62, _⟩ => ⟨S_, .f32⟩
  | .hbm, ⟨63, _⟩ => ⟨S8x512x512, .f32⟩
  | .hbm, ⟨64, _⟩ => ⟨S8x512x512, .f32⟩
  | .hbm, ⟨65, _⟩ => ⟨S8x1x512x512, .f32⟩
  | .hbm, ⟨66, _⟩ => ⟨S8x19x512x512, .f32⟩
  | .hbm, ⟨67, _⟩ => ⟨S8x19x512x512, .f32⟩
  | .hbm, ⟨68, _⟩ => ⟨S8x19x512x512, .f32⟩
  | .hbm, ⟨69, _⟩ => ⟨S_, .f32⟩
  | .hbm, ⟨70, _⟩ => ⟨S8x512x512, .f32⟩
  | .hbm, ⟨71, _⟩ => ⟨S8x1x512x512, .f32⟩
  | .hbm, ⟨72, _⟩ => ⟨S8x1x512x512, .f32⟩
  | .hbm, ⟨73, _⟩ => ⟨S8x19x512x512, .f32⟩
  | .hbm, ⟨74, _⟩ => ⟨S8x19x512x512, .f32⟩
  | .hbm, ⟨75, _⟩ => ⟨S8x1x512x512, .i32⟩
  | .hbm, ⟨76, _⟩ => ⟨S_, .i32⟩
  | .hbm, ⟨77, _⟩ => ⟨S8x1x512x512, .i32⟩
  | .hbm, ⟨78, _⟩ => ⟨S8x1x512x512, .i1⟩
  | .hbm, ⟨79, _⟩ => ⟨S_, .i32⟩
  | .hbm, ⟨80, _⟩ => ⟨S8x1x512x512, .i32⟩
  | .hbm, ⟨81, _⟩ => ⟨S8x1x512x512, .i32⟩
  | .hbm, ⟨82, _⟩ => ⟨S8x1x512x512, .i32⟩
  | .hbm, ⟨83, _⟩ => ⟨S8x1x512x512x1, .i32⟩
  | .hbm, ⟨84, _⟩ => ⟨S1, .i32⟩
  | .hbm, ⟨85, _⟩ => ⟨S_, .i32⟩
  | .hbm, ⟨86, _⟩ => ⟨S8x1x512x512x1, .i32⟩
  | .hbm, ⟨87, _⟩ => ⟨S8x1x512x512x1, .i1⟩
  | .hbm, ⟨88, _⟩ => ⟨S1x1x1x1x1, .i32⟩
  | .hbm, ⟨89, _⟩ => ⟨S8x1x512x512x1, .i32⟩
  | .hbm, ⟨90, _⟩ => ⟨S8x1x512x512x1, .i1⟩
  | .hbm, ⟨91, _⟩ => ⟨S8x1x512x512x1, .i1⟩
  | .hbm, ⟨92, _⟩ => ⟨S_, .i1⟩
  | .hbm, ⟨93, _⟩ => ⟨S8x1x512x512, .i1⟩
  | .hbm, ⟨94, _⟩ => ⟨S8x1x512x512, .f32⟩
  | .hbm, ⟨95, _⟩ => ⟨S_, .f32⟩
  | .hbm, ⟨96, _⟩ => ⟨S8x1x512x512, .f32⟩
  | .hbm, ⟨97, _⟩ => ⟨S8x1x512x512, .f32⟩
  | .hbm, ⟨98, _⟩ => ⟨S8x512x512, .f32⟩
  | .hbm, ⟨99, _⟩ => ⟨S8x512x512, .f32⟩
  | .hbm, ⟨100, _⟩ => ⟨S_, .i32⟩
  | .hbm, ⟨101, _⟩ => ⟨S8x512x512, .i32⟩
  | .hbm, ⟨102, _⟩ => ⟨S8x512x512, .i1⟩
  | .hbm, ⟨103, _⟩ => ⟨S_, .i32⟩
  | .hbm, ⟨104, _⟩ => ⟨S8x512x512, .i32⟩
  | .hbm, ⟨105, _⟩ => ⟨S8x512x512, .i32⟩
  | .hbm, ⟨106, _⟩ => ⟨S8x512x512, .i32⟩
  | .hbm, ⟨107, _⟩ => ⟨S8x512x512x1, .i32⟩
  | .hbm, ⟨108, _⟩ => ⟨S8x512x512, .f32⟩
  | .hbm, ⟨109, _⟩ => ⟨S8x512x512, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_c_6 : Ref sig .tc := ⟨.hbm, 37, rfl⟩
abbrev main_call3_v0 : Ref sig .tc := ⟨.hbm, 38, rfl⟩
abbrev main_call3_v1 : Ref sig .tc := ⟨.hbm, 39, rfl⟩
abbrev main_v20 : Ref sig .tc := ⟨.hbm, 40, rfl⟩
abbrev main_c_7 : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_cst_10 : Ref sig .tc := ⟨.hbm, 53, rfl⟩
abbrev main_call4_v0 : Ref sig .tc := ⟨.hbm, 54, rfl⟩
abbrev main_v30 : Ref sig .tc := ⟨.hbm, 55, rfl⟩
abbrev main_cst_11 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call5_cst : Ref sig .tc := ⟨.hbm, 60, rfl⟩
abbrev main_call5_v0 : Ref sig .tc := ⟨.hbm, 61, rfl⟩
abbrev main_call5_cst_0 : Ref sig .tc := ⟨.hbm, 62, rfl⟩
abbrev main_call5_v1 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_call5_v5 : Ref sig .tc := ⟨.hbm, 67, rfl⟩
abbrev main_call5_v6 : Ref sig .tc := ⟨.hbm, 68, rfl⟩
abbrev main_call5_cst_1 : Ref sig .tc := ⟨.hbm, 69, rfl⟩
abbrev main_call5_v7 : Ref sig .tc := ⟨.hbm, 70, rfl⟩
abbrev main_call5_v8 : Ref sig .tc := ⟨.hbm, 71, rfl⟩
abbrev main_call5_v9 : Ref sig .tc := ⟨.hbm, 72, rfl⟩
abbrev main_call5_v10 : Ref sig .tc := ⟨.hbm, 73, rfl⟩
abbrev main_v34 : Ref sig .tc := ⟨.hbm, 74, rfl⟩
abbrev main_v35 : Ref sig .tc := ⟨.hbm, 75, rfl⟩
abbrev main_call6_c : Ref sig .tc := ⟨.hbm, 76, rfl⟩
abbrev main_call6_v0 : Ref sig .tc := ⟨.hbm, 77, rfl⟩
abbrev main_call6_v1 : Ref sig .tc := ⟨.hbm, 78, rfl⟩
abbrev main_call6_c_0 : Ref sig .tc := ⟨.hbm, 79, rfl⟩
abbrev main_call6_v2 : Ref sig .tc := ⟨.hbm, 80, rfl⟩
abbrev main_call6_v3 : Ref sig .tc := ⟨.hbm, 81, rfl⟩
abbrev main_call6_v4 : Ref sig .tc := ⟨.hbm, 82, rfl⟩
abbrev main_call6_v5 : Ref sig .tc := ⟨.hbm, 83, rfl⟩
abbrev main_call6_c_1 : Ref sig .tc := ⟨.hbm, 84, rfl⟩
abbrev main_call6_c_2 : Ref sig .tc := ⟨.hbm, 85, rfl⟩
abbrev main_call6_v6 : Ref sig .tc := ⟨.hbm, 86, rfl⟩
abbrev main_call6_v7 : Ref sig .tc := ⟨.hbm, 87, rfl⟩
abbrev main_call6_v8 : Ref sig .tc := ⟨.hbm, 88, rfl⟩
abbrev main_call6_v9 : Ref sig .tc := ⟨.hbm, 89, rfl⟩
abbrev main_call6_v10 : Ref sig .tc := ⟨.hbm, 90, rfl⟩
abbrev main_call6_v11 : Ref sig .tc := ⟨.hbm, 91, rfl⟩
abbrev main_call6_c_3 : Ref sig .tc := ⟨.hbm, 92, rfl⟩
abbrev main_call6_v12 : Ref sig .tc := ⟨.hbm, 93, rfl⟩
abbrev main_call6_v13 : Ref sig .tc := ⟨.hbm, 94, rfl⟩
abbrev main_call6_cst : Ref sig .tc := ⟨.hbm, 95, rfl⟩
abbrev main_call6_v14 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_c_12 : Ref sig .tc := ⟨.hbm, 100, rfl⟩
abbrev main_v39 : Ref sig .tc := ⟨.hbm, 101, rfl⟩
abbrev main_v40 : Ref sig .tc := ⟨.hbm, 102, rfl⟩
abbrev main_c_13 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_cst_14 : Ref sig .tc := ⟨.hbm, 110, rfl⟩
abbrev main_v47 : Ref sig .tc := ⟨.hbm, 111, rfl⟩
abbrev main_cst_15 : Ref sig .tc := ⟨.hbm, 112, rfl⟩
abbrev main_v48 : Ref sig .tc := ⟨.hbm, 113, rfl⟩

abbrev nD : Nat := 1
abbrev τ : Topo := Topo.v7x

variable {F : FTy → Type} [FloatOps F]
-- ==== Proof.Slab.lean ====
/- What one slab of sixteen rows computes, as named array operations of the kernel's own order: the three lanes' running
   maximum, sum of exponentials and picked logit, what is packed and what is summed for a pixel, the fold of a [16,512]
   array to [8,128], and one class's row of each scratch buffer after a slab. Then the list of the row stores a point makes. -/
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Loss

open Cert.KernelIdeal Cert.KernelIdeal.Gen

variable {F : FTy → Type} [FloatOps F]

/-- The sixteen rows of targets as a plane. -/
def tgt (t : Vec F S1x16x512 .i32) : IVec S16x512 32 := shapeCast S16x512 t shapeCasts_S1x16x512_S16x512

/-- One class's sixteen rows of logits as a plane. -/
def plane (x : Vec F S1x1x16x512 .f32) : FVec F S16x512 .f32 := shapeCast S16x512 x shapeCasts_S1x1x16x512_S16x512

/-- Where the target is class `c`. -/
def isClass (t : IVec S16x512 32) (c : ℕ) : IVec S16x512 1 := cmpi .eq t (broadcast S16x512 (BitVec.ofNat 32 c))

variable (L : ℕ → Vec F S1x1x16x512 .f32) (t : IVec S16x512 32)

/-- The running maximum of lane `k` over its classes `k, k + 3, …, k + 3n`. -/
def laneMax (k : ℕ) : ℕ → FVec F S16x512 .f32
  | 0 => plane (L k)
  | n + 1 => maximumf (laneMax k n) (plane (L (k + 3 * (n + 1))))

/-- The running sum of exponentials of lane `k`. -/
def laneSum (k : ℕ) : ℕ → FVec F S16x512 .f32
  | 0 => exp (plane (L k))
  | n + 1 => addf (laneSum k n) (exp (plane (L (k + 3 * (n + 1)))))

/-- The logit of the target's class if lane `k` has met it, else zero. -/
def lanePick (k : ℕ) : ℕ → FVec F S16x512 .f32
  | 0 => select (isClass t k) (plane (L k)) (broadcast S16x512 (Scalar.ofBits .f32 0x00000000#32))
  | n + 1 => select (isClass t (k + 3 * (n + 1))) (plane (L (k + 3 * (n + 1)))) (lanePick k n)

/-- The largest logit of each pixel. -/
def top : FVec F S16x512 .f32 := maximumf (maximumf (laneMax L 0 6) (laneMax L 1 5)) (laneMax L 2 5)

/-- The sum of the exponentials of each pixel's logits. -/
def expSum : FVec F S16x512 .f32 := addf (addf (laneSum L 0 6) (laneSum L 1 5)) (laneSum L 2 5)

/-- The logit of each pixel's target. -/
def picked : FVec F S16x512 .f32 := addf (addf (lanePick L t 0 6) (lanePick L t 1 5)) (lanePick L t 2 5)

/-- The cross entropy of each pixel. -/
def crossEnt : FVec F S16x512 .f32 := subf (log (expSum L)) (picked L t)

/-- One for every pixel, and `2^16` more where the target's logit is below the largest. -/
def packed : IVec S16x512 32 :=
  select (cmpf .olt (picked L t) (top L)) (broadcast S16x512 65537#32) (broadcast S16x512 1#32)

/-- A [16,512] array of words folded to [8,128]: the two halves of the rows added, then the four quarters of the columns. -/
def foldWords (a : IVec S16x512 32) : IVec S8x128 32 :=
  let r : IVec S8x512 32 := addi (extractStridedSlice S8x512 ![0, 0] a slices_S16x512_o0_0_S8x512) (extractStridedSlice S8x512 ![8, 0] a slices_S16x512_o8_0_S8x512)
  addi (addi (addi (extractStridedSlice S8x128 ![0, 0] r slices_S8x512_o0_0_S8x128) (extractStridedSlice S8x128 ![0, 128] r slices_S8x512_o0_128_S8x128))
    (extractStridedSlice S8x128 ![0, 256] r slices_S8x512_o0_256_S8x128)) (extractStridedSlice S8x128 ![0, 384] r slices_S8x512_o0_384_S8x128)

/-- A [16,512] array of floats folded to [8,128] in the same order. -/
def foldFloats (a : FVec F S16x512 .f32) : FVec F S8x128 .f32 :=
  let r : FVec F S8x512 .f32 := addf (extractStridedSlice S8x512 ![0, 0] a slices_S16x512_o0_0_S8x512) (extractStridedSlice S8x512 ![8, 0] a slices_S16x512_o8_0_S8x512)
  addf (addf (addf (extractStridedSlice S8x128 ![0, 0] r slices_S8x512_o0_0_S8x128) (extractStridedSlice S8x128 ![0, 128] r slices_S8x512_o0_128_S8x128))
    (extractStridedSlice S8x128 ![0, 256] r slices_S8x512_o0_256_S8x128)) (extractStridedSlice S8x128 ![0, 384] r slices_S8x512_o0_384_S8x128)

/-- Class `c`'s row of the word scratch after a slab, from its row `p` before. -/
def rowWords (c : ℕ) (p : Vec F S1x8x128 .i32) : Vec F S1x8x128 .i32 :=
  shapeCast S1x8x128 (addi (shapeCast S8x128 p shapeCasts_S1x8x128_S8x128) (foldWords (select (isClass t c) (packed L t) (broadcast S16x512 0#32))))
    shapeCasts_S8x128_S1x8x128

/-- Class `c`'s row of the float scratch after a slab, from its row `p` before. -/
def rowFloats (c : ℕ) (p : Vec F S1x8x128 .f32) : Vec F S1x8x128 .f32 :=
  shapeCast S1x8x128 (addf (shapeCast S8x128 p shapeCasts_S1x8x128_S8x128) (foldFloats (select (isClass t c) (crossEnt L t) (broadcast S16x512 (Scalar.ofBits .f32 0x00000000#32)))))
    shapeCasts_S8x128_S1x8x128

/-! ## The loads and the stores of one point -/

theorem in_logits (s c : ℕ) : ∀ a, (![0, c % 19, 16 * (s % 4), 0] : Fin 4 → ℕ) a + S1x1x16x512.size a ≤ S1x19x64x512.size a := by
  have h1 := Nat.mod_lt c (show 0 < 19 by decide)
  have h2 := Nat.mod_lt s (show 0 < 4 by decide)
  intro a
  match a with
  | ⟨0, _⟩ => exact Nat.le_refl 1
  | ⟨1, _⟩ => show c % 19 + 1 ≤ 19; omega
  | ⟨2, _⟩ => show 16 * (s % 4) + 16 ≤ 64; omega
  | ⟨3, _⟩ => exact Nat.le_refl 512

theorem in_targets (s : ℕ) : ∀ a, (![0, 16 * (s % 4), 0] : Fin 3 → ℕ) a + S1x16x512.size a ≤ S1x64x512.size a := by
  have h2 := Nat.mod_lt s (show 0 < 4 by decide)
  intro a
  match a with
  | ⟨0, _⟩ => exact Nat.le_refl 1
  | ⟨1, _⟩ => show 16 * (s % 4) + 16 ≤ 64; omega
  | ⟨2, _⟩ => exact Nat.le_refl 512

theorem in_scratch (c : ℕ) : ∀ a, (![c % 19, 0, 0] : Fin 3 → ℕ) a + S1x8x128.size a ≤ S19x8x128.size a := by
  have h1 := Nat.mod_lt c (show 0 < 19 by decide)
  intro a
  match a with
  | ⟨0, _⟩ => show c % 19 + 1 ≤ 19; omega
  | ⟨1, _⟩ => exact Nat.le_refl 8
  | ⟨2, _⟩ => exact Nat.le_refl 128

/-- Slab `s`'s rows of class `c` in the block of logits. -/
abbrev logitsAt (s c : ℕ) : Rect S1x19x64x512 := Rect.unit (s := S1x19x64x512) ![0, c % 19, 16 * (s % 4), 0] S1x1x16x512.size (in_logits s c)

/-- Slab `s`'s rows in the block of targets. -/
abbrev targetsAt (s : ℕ) : Rect S1x64x512 := Rect.unit (s := S1x64x512) ![0, 16 * (s % 4), 0] S1x16x512.size (in_targets s)

/-- Class `c`'s row of a scratch buffer. -/
abbrev rowAt (c : ℕ) : Rect S19x8x128 := Rect.unit (s := S19x8x128) ![c % 19, 0, 0] S1x8x128.size (in_scratch c)

/-- The row stores of a point, newest first: the store numbered `k` writes class `k % 19`'s row for slab `k / 19`, what it
    adds to being read by `rd` off the stores before it. -/
def stores {e : EltTy} (rd : ℕ → List (View.Piece (Elt F) S19x8x128 e) → Vec F S1x8x128 e)
    (f : ℕ → ℕ → Vec F S1x8x128 e → Vec F S1x8x128 e) (base : List (View.Piece (Elt F) S19x8x128 e)) : ℕ → List (View.Piece (Elt F) S19x8x128 e)
  | 0 => base
  | k + 1 => ⟨rowAt k, f (k / 19) (k % 19) (rd k (stores rd f base k))⟩ :: stores rd f base k

/-- The row a store adds to, where the stores before it cover the row. -/
def rdAll {e : EltTy} (v : View sig .tc .vmem S19x8x128 e) (k : ℕ) (l : List (View.Piece (Elt F) S19x8x128 e)) : Vec F S1x8x128 e :=
  v.readCov l (rowAt k).toLoadRect

/-- The row a store adds to, where the first slab's stores find what the scratch held before the point. -/
def rdHeld {e : EltTy} (v : View sig .tc .vmem S19x8x128 e) (g : v.ty.Contents (Elt F)) (k : ℕ) (l : List (View.Piece (Elt F) S19x8x128 e)) : Vec F S1x8x128 e :=
  bif Nat.blt k 19 then v.readAt (Elt F) (rowAt k).toLoadRect g else v.readCov l (rowAt k).toLoadRect

end Cert.KernelIdeal.Loss

end
-- ==== Proof.Stores.lean ====
/- The lists of stores of one point, in the uniform words of `Slab`: for each of the three kinds of point (the first, one
   in between, the last) the pieces stored to each scratch buffer, and for the last one the piece stored to the result. -/
module

public import proofs.«01_k».proof.Proof.Slab

@[expose] public section

noncomputable section

open Idealize.ShloMosaic Idealize.ShloMosaic.TcCoe Idealize.SL.Sem

namespace Cert.KernelIdeal.Loss

open Cert.KernelIdeal Cert.KernelIdeal.Gen

variable {F : FTy → Type} [FloatOps F]

/-- The rows of logits a point's body loads for slab `s`, by class. -/
abbrev ldLogits {a1 : Memref sig .tc .vmem S1x19x64x512 .f32} (h1 : a1.IsWhole) (x : Vec F S1x19x64x512 .f32) (s c : ℕ) : Vec F S1x1x16x512 .f32 :=
  View.readAt (Elt F) a1.view (logitsAt s c).toLoadRect (h1.unread x)

/-- The rows of targets it loads for slab `s`, as a plane. -/
abbrev ldTargets {a2 : Memref sig .tc .vmem S1x64x512 .i32} (h2 : a2.IsWhole) (t : Vec F S1x64x512 .i32) (s : ℕ) : IVec S16x512 32 :=
  tgt (F := F) (View.readAt (Elt F) a2.view (targetsAt s).toLoadRect (h2.unread t))

/-- The sum of a plane of floats, reshaped and reduced as the kernel does. -/
def planeSum (a : FVec F S8x128 .f32) : F .f32 :=
  extractAt ![0, 0, 0] (shapeCast S1x1x1 (multiReduction .add [1, 2] S1 (shapeCast S1x8x128 a shapeCasts_S8x128_S1x8x128) 0x00000000#32
    reduces_S1x8x128_S1 (.inl rfl) rfl) shapeCasts_S1_S1x1x1) inpos_S1x1x1_p0_0_0

/-- A class's number of pixels, off its row of words. -/
def classCount (w : Vec F S1x8x128 .i32) : F .f32 :=
  planeSum (sitofp .f32 (andi (shapeCast S8x128 w shapeCasts_S1x8x128_S8x128 : IVec S8x128 32) (broadcast S8x128 65535#32)))

/-- A class's number of missed pixels, off its row of words. -/
def classMissed (w : Vec F S1x8x128 .i32) : F .f32 :=
  planeSum (sitofp .f32 (andi (shrsi (shapeCast S8x128 w shapeCasts_S1x8x128_S8x128 : IVec S8x128 32) (broadcast S8x128 16#32)) (broadcast S8x128 65535#32)))

/-- A class's sum of cross entropies, off its row of floats. -/
def classLoss (a : Vec F S1x8x128 .f32) : F .f32 := planeSum (shapeCast S8x128 a shapeCasts_S1x8x128_S8x128)

/-- A count, or one where it is not above zero. -/
def orOne (x : F .f32) : F .f32 :=
  Scalar.select (Scalar.cmpf .ogt x (Scalar.ofBits .f32 0x00000000#32)) x (Scalar.ofBits .f32 0x3F800000#32)

/-- A class's weight times its loss. -/
def classTerm (w : Vec F S1x8x128 .i32) (a : Vec F S1x8x128 .f32) : F .f32 :=
  Scalar.mulf (Scalar.divf (orOne (classMissed w)) (Scalar.addf (orOne (classCount w)) (Scalar.ofBits .f32 0x33D6BF95#32))) (classLoss a)

/-- The weighted losses of the first `n` classes. -/
def classTotal (W : ℕ → Vec F S1x8x128 .i32) (A : ℕ → Vec F S1x8x128 .f32) : ℕ → F .f32
  | 0 => Scalar.ofBits .f32 0x00000000#32
  | n + 1 => Scalar.addf (classTotal W A n) (classTerm (W n) (A n))

set_option maxRecDepth 100000 in
/-- The stores the first point makes to the word scratch. -/
theorem words_A (c : Dev nD) (i : grid0.Coords) (a1 : Memref sig .tc .vmem S1x19x64x512 .f32) (h1 : a1.IsWhole)
    (a2 : Memref sig .tc .vmem S1x64x512 .i32) (h2 : a2.IsWhole) (a3 : Memref sig .tc .vmem S1x1 .f32) (h3 : a3.IsWhole)
    (a4 : Memref sig .tc .vmem S19x8x128 .i32) (h4 : a4.IsWhole) (a5 : Memref sig .tc .vmem S19x8x128 .f32) (h5 : a5.IsWhole)
    (hc : cond0_0 i) (hc1 : ¬cond0_1 i) (x : Vec F S1x19x64x512 .f32) (t : Vec F S1x64x512 .i32) :
    (kernelRun0_A c i a1 h1 a2 h2 a3 h3 a4 h4 a5 h5 hc hc1 x t).2.1
      = stores (rdAll a4.view) (fun s cl => rowWords (ldLogits h1 x s) (ldTargets h2 t s) cl) [⟨Rect.unit (s := S19x8x128) ![0, 0, 0] S19x8x128.size inb_S19x8x128_S19x8x128_0_0_0, k0_pay58⟩] 76 := by
  sl_kernel_rfl

set_option maxRecDepth 100000 in
/-- The stores the first point makes to the float scratch. -/
theorem floats_A (c : Dev nD) (i : grid0.Coords) (a1 : Memref sig .tc .vmem S1x19x64x512 .f32) (h1 : a1.IsWhole)
    (a2 : Memref sig .tc .vmem S1x64x512 .i32) (h2 : a2.IsWhole) (a3 : Memref sig .tc .vmem S1x1 .f32) (h3 : a3.IsWhole)
    (a4 : Memref sig .tc .vmem S19x8x128 .i32) (h4 : a4.IsWhole) (a5 : Memref sig .tc .vmem S19x8x128 .f32) (h5 : a5.IsWhole)
    (hc : cond0_0 i) (hc1 : ¬cond0_1 i) (x : Vec F S1x19x64x512 .f32) (t : Vec F S1x64x512 .i32) :
    (kernelRun0_A c i a1 h1 a2 h2 a3 h3 a4 h4 a5 h5 hc hc1 x t).2.2.1
      = stores (rdAll a5.view) (fun s cl => rowFloats (ldLogits h1 x s) (ldTargets h2 t s) cl) [⟨Rect.unit (s := S19x8x128) ![0, 0, 0] S19x8x128.size inb_S19x8x128_S19x8x128_0_0_0, k0_pay59⟩] 76 := by
  sl_kernel_rfl

set_option maxRecDepth 100000 in
/-- The stores the middle point makes to the word scratch. -/
theorem words_B (c : Dev nD) (i : grid0.Coords) (a1 : Memref sig .tc .vmem S1x19x64x512 .f32) (h1 : a1.IsWhole)
    (a2 : Memref sig .tc .vmem S1x64x512 .i32) (h2 : a2.IsWhole) (a3 : Memref sig .tc .vmem S1x1 .f32) (h3 : a3.IsWhole)
    (a4 : Memref sig .tc .vmem S19x8x128 .i32) (h4 : a4.IsWhole) (a5 : Memref sig .tc .vmem S19x8x128 .f32) (h5 : a5.IsWhole)
    (hc : ¬cond0_0 i) (hc1 : ¬cond0_1 i) (x : Vec F S1x19x64x512 .f32) (t : Vec F S1x64x512 .i32) (A : Vec F S19x8x128 .i32) (B : Vec F S19x8x128 .f32) :
    (kernelRun0_B c i a1 h1 a2 h2 a3 h3 a4 h4 a5 h5 hc hc1 x t A B).2.1
      = stores (rdHeld a4.view (h4.unread A)) (fun s cl => rowWords (ldLogits h1 x s) (ldTargets h2 t s) cl) [] 76 := by
  sl_kernel_rfl

set_option maxRecDepth 100000 in
/-- The stores the middle point makes to the float scratch. -/
theorem floats_B (c : Dev nD) (i : grid0.Coords) (a1 : Memref sig .tc .vmem S1x19x64x512 .f32) (h1 : a1.IsWhole)
    (a2 : Memref sig .tc .vmem S1x64x512 .i32) (h2 : a2.IsWhole) (a3 : Memref sig .tc .vmem S1x1 .f32) (h3 : a3.IsWhole)
    (a4 : Memref sig .tc .vmem S19x8x128 .i32) (h4 : a4.IsWhole) (a5 : Memref sig .tc .vmem S19x8x128 .f32) (h5 : a5.IsWhole)
    (hc : ¬cond0_0 i) (hc1 : ¬cond0_1 i) (x : Vec F S1x19x64x512 .f32) (t : Vec F S1x64x512 .i32) (A : Vec F S19x8x128 .i32) (B : Vec F S19x8x128 .f32) :
    (kernelRun0_B c i a1 h1 a2 h2 a3 h3 a4 h4 a5 h5 hc hc1 x t A B).2.2.1
      = stores (rdHeld a5.view (h5.unread B)) (fun s cl => rowFloats (ldLogits h1 x s) (ldTargets h2 t s) cl) [] 76 := by
  sl_kernel_rfl

set_option maxRecDepth 100000 in
/-- The stores the last point makes to the word scratch. -/
theorem words_C (c : Dev nD) (i : grid0.Coords) (a1 : Memref sig .tc .vmem S1x19x64x512 .f32) (h1 : a1.IsWhole)
    (a2 : Memref sig .tc .vmem S1x64x512 .i32) (h2 : a2.IsWhole) (a3 : Memref sig .tc .vmem S1x1 .f32) (h3 : a3.IsWhole)
    (a4 : Memref sig .tc .vmem S19x8x128 .i32) (h4 : a4.IsWhole) (a5 : Memref sig .tc .vmem S19x8x128 .f32) (h5 : a5.IsWhole)
    (hc : ¬cond0_0 i) (hc1 : cond0_1 i) (x : Vec F S1x19x64x512 .f32) (t : Vec F S1x64x512 .i32) (A : Vec F S19x8x128 .i32) (B : Vec F S19x8x128 .f32) :
    (kernelRun0_C c i a1 h1 a2 h2 a3 h3 a4 h4 a5 h5 hc hc1 x t A B).2.1
      = stores (rdHeld a4.view (h4.unread A)) (fun s cl => rowWords (ldLogits h1 x s) (ldTargets h2 t s) cl) [] 76 := by
  sl_kernel_rfl

set_option maxRecDepth 100000 in
/-- The stores the last point makes to the float scratch. -/
theorem floats_C (c : Dev nD) (i : grid0.Coords) (a1 : Memref sig .tc .vmem S1x19x64x512 .f32) (h1 : a1.IsWhole)
    (a2 : Memref sig .tc .vmem S1x64x512 .i32) (h2 : a2.IsWhole) (a3 : Memref sig .tc .vmem S1x1 .f32) (h3 : a3.IsWhole)
    (a4 : Memref sig .tc .vmem S19x8x128 .i32) (h4 : a4.IsWhole) (a5 : Memref sig .tc .vmem S19x8x128 .f32) (h5 : a5.IsWhole)
    (hc : ¬cond0_0 i) (hc1 : cond0_1 i) (x : Vec F S1x19x64x512 .f32) (t : Vec F S1x64x512 .i32) (A : Vec F S19x8x128 .i32) (B : Vec F S19x8x128 .f32) :
    (kernelRun0_C c i a1 h1 a2 h2 a3 h3 a4 h4 a5 h5 hc hc1 x t A B).2.2.1
      = stores (rdHeld a5.view (h5.unread B)) (fun s cl => rowFloats (ldLogits h1 x s) (ldTargets h2 t s) cl) [] 76 := by
  sl_kernel_rfl

set_option maxRecDepth 100000 in
/-- The store the last point makes to the result. -/
theorem result_C (c : Dev nD) (i : grid0.Coords) (a1 : Memref sig .tc .vmem S1x19x64x512 .f32) (h1 : a1.IsWhole)
    (a2 : Memref sig .tc .vmem S1x64x512 .i32) (h2 : a2.IsWhole) (a3 : Memref sig .tc .vmem S1x1 .f32) (h3 : a3.IsWhole)
    (a4 : Memref sig .tc .vmem S19x8x128 .i32) (h4 : a4.IsWhole) (a5 : Memref sig .tc .vmem S19x8x128 .f32) (h5 : a5.IsWhole)
    (hc : ¬cond0_0 i) (hc1 : cond0_1 i) (x : Vec F S1x19x64x512 .f32) (t : Vec F S1x64x512 .i32) (A : Vec F S19x8x128 .i32) (B : Vec F S19x8x128 .f32) :
    (kernelRun0_C c i a1 h1 a2 h2 a3 h3 a4 h4 a5 h5 hc hc1 x t A B).1
      = [⟨Rect.unit (s := S1x1) ![0, 0] S1x1.size inb_S1x1_S1x1_0_0, broadcast S1x1 (Scalar.divf
          (classTotal (fun k => rdAll a4.view k (stores (rdHeld a4.view (h4.unread A)) (fun s cl => rowWords (ldLogits h1 x s) (ldTargets h2 t s) cl) [] 76))
            (fun k => rdAll a5.view k (stores (rdHeld a5.view (h5.unread B)) (fun s cl => rowFloats (ldLogits h1 x s) (ldTargets h2 t s) cl) [] 76)) 19)
          (Scalar.ofBits .f32 0x4A000000#32))⟩] := by
  sl_kernel_rfl

end Cert.KernelIdeal.Loss

end
-- ==== Proof.Rows.lean ====
/- What a list of row stores holds: the row of class `c` after `k` of them is what its slabs so far make of the row before. -/
module

public import proofs.«01_k».proof.Proof.Stores

@[expose] public section

noncomputable section

open Idealize.ShloMosaic Idealize.ShloMosaic.TcCoe Idealize.SL.Sem

namespace Cert.KernelIdeal.Loss

open Cert.KernelIdeal Cert.KernelIdeal.Gen

variable {F : FTy → Type} [FloatOps F] {e : EltTy}

/-- Two classes' rows share no cell. -/
theorem rows_disjoint {k c : ℕ} (h : k % 19 ≠ c % 19) (j : S1x8x128.Idx) : (rowAt c).toLoadRect.idx j ∉ (rowAt k).set := by
  intro hm
  obtain ⟨h1, h2⟩ := (Rect.mem_set_unit.mp hm) 0
  have hj : (j 0).val < 1 := (j 0).isLt
  have h1' : k % 19 ≤ c % 19 + 1 * (j 0).val := h1
  have h2' : c % 19 + 1 * (j 0).val < k % 19 + 1 := h2
  omega

variable (v : View sig .tc .vmem S19x8x128 e)

/-- A read through a row depends on the row's offset alone. -/
theorem readCov_offset (l : List (View.Piece (Elt F) S19x8x128 e)) {o o' : Fin 3 → ℕ} (h : o = o')
    (b : ∀ a, o a + S1x8x128.size a ≤ S19x8x128.size a) (b' : ∀ a, o' a + S1x8x128.size a ≤ S19x8x128.size a) :
    (v.readCov l (Rect.unit (s := S19x8x128) o S1x8x128.size b).toLoadRect : Vec F S1x8x128 e)
      = v.readCov l (Rect.unit (s := S19x8x128) o' S1x8x128.size b').toLoadRect := by subst h; rfl

/-- Stores numbered alike modulo the classes read the same row. -/
theorem rdAll_congr {k c : ℕ} (h : k % 19 = c % 19) (l : List (View.Piece (Elt F) S19x8x128 e)) : rdAll v k l = rdAll v c l :=
  readCov_offset v l (by rw [h]) _ _

/-- A row read off a store of another class's row. -/
theorem rdAll_miss {k c : ℕ} (h : k % 19 ≠ c % 19) (w : Vec F S1x8x128 e) (l : List (View.Piece (Elt F) S19x8x128 e)) :
    rdAll v c (⟨rowAt k, w⟩ :: l) = rdAll v c l := by
  unfold rdAll
  rw [View.readCov_eq_canon', View.readCov_eq_canon']
  funext j
  exact View.canon_cons_of_not_mem _ l (rows_disjoint h j)

/-- A row read off its own store. -/
theorem rdAll_hit {k c : ℕ} (h : k % 19 = c % 19) (w : Vec F S1x8x128 e) (l : List (View.Piece (Elt F) S19x8x128 e)) :
    rdAll v c (⟨rowAt k, w⟩ :: l) = w := by
  rw [← rdAll_congr v h]
  exact View.readCov_cons_toLoadRect v (rowAt k) w l

/-- A row after the first `n` slabs, from the row before them. -/
def slabs (f : ℕ → ℕ → Vec F S1x8x128 e → Vec F S1x8x128 e) (c : ℕ) (p : Vec F S1x8x128 e) : ℕ → Vec F S1x8x128 e
  | 0 => p
  | n + 1 => f n c (slabs f c p n)

variable (rd : ℕ → List (View.Piece (Elt F) S19x8x128 e) → Vec F S1x8x128 e)
  (f : ℕ → ℕ → Vec F S1x8x128 e → Vec F S1x8x128 e) (base : List (View.Piece (Elt F) S19x8x128 e))

/-- A class the first slab's stores have not reached reads what was there before. -/
theorem rdAll_unreached {c : ℕ} (hc : c < 19) : ∀ k : ℕ, k ≤ c → rdAll v c (stores rd f base k) = rdAll v c base
  | 0, _ => rfl
  | k + 1, hk => by
    have hne : k % 19 ≠ c % 19 := by omega
    exact (rdAll_miss v hne _ _).trans (rdAll_unreached hc k (by omega))

/-- If each store of the first slab adds to `p`'s row and each later one to what the row holds, then after `k` stores a
    reached class's row is what its slabs so far make of `p`'s. -/
theorem rdAll_stores (p : ℕ → Vec F S1x8x128 e) (h0 : ∀ k, k < 19 → rd k (stores rd f base k) = p k)
    (h1 : ∀ k l, 19 ≤ k → rd k l = rdAll v k l) {c : ℕ} (hc : c < 19) :
    ∀ k : ℕ, c < k → rdAll v c (stores rd f base k) = slabs f c (p c) ((k + 18 - c) / 19)
  | 0, h => absurd h (Nat.not_lt_zero _)
  | k + 1, hk => by
    by_cases he : k % 19 = c
    · have he' : k % 19 = c % 19 := by omega
      refine (rdAll_hit v he' _ _).trans ?_
      have hn : (k + 1 + 18 - c) / 19 = k / 19 + 1 := by omega
      rw [hn, he]
      show f (k / 19) c _ = f (k / 19) c _
      congr 1
      by_cases hlt : k < 19
      · have hkc : k = c := by omega
        rw [h0 k hlt, hkc, show c / 19 = 0 by omega]
        rfl
      · rw [h1 k _ (by omega)]
        rw [rdAll_congr v he', rdAll_stores p h0 h1 hc k (by omega), show (k + 18 - c) / 19 = k / 19 by omega]
    · have hne : k % 19 ≠ c % 19 := by omega
      refine (rdAll_miss v hne _ _).trans ?_
      rw [rdAll_stores p h0 h1 hc k (by omega), show (k + 1 + 18 - c) / 19 = (k + 18 - c) / 19 by omega]

/-- All of a point's stores, where they begin over a cleared scratch. -/
theorem rdAll_all {c : ℕ} (hc : c < 19) :
    rdAll v c (stores (rdAll v) f base 76) = slabs f c (rdAll v c base) 4 := by
  rw [rdAll_stores v (rdAll v) f base (fun k => rdAll v k base) (fun k hk => rdAll_unreached v _ f base hk k (le_refl k))
    (fun _ _ _ => rfl) hc 76 (by omega), show (76 + 18 - c) / 19 = 4 by omega]

/-- All of a point's stores, where the scratch held `g` before. -/
theorem rdAll_held (g : v.ty.Contents (Elt F)) {c : ℕ} (hc : c < 19) :
    rdAll v c (stores (rdHeld v g) f base 76) = slabs f c (v.readAt (Elt F) (rowAt c).toLoadRect g) 4 := by
  rw [rdAll_stores v (rdHeld v g) f base (fun k => v.readAt (Elt F) (rowAt k).toLoadRect g)
    (fun k hk => by
      unfold rdHeld
      rw [show Nat.blt k 19 = true from Nat.blt_eq.mpr hk]
      rfl)
    (fun k l hk => by
      unfold rdHeld
      rw [show Nat.blt k 19 = false from by rw [Bool.eq_false_iff]; intro h; have := Nat.blt_eq.mp h; omega]
      rfl) hc 76 (by omega), show (76 + 18 - c) / 19 = 4 by omega]

end Cert.KernelIdeal.Loss

end
-- ==== Proof.Point.lean ====
/- What one point leaves: each class's row of either scratch is what the point's four slabs make of the row it found, and the
   last point's result is the weighted total over those rows. -/
module

public import proofs.«01_k».proof.Proof.Rows

@[expose] public section

noncomputable section

open Idealize.ShloMosaic Idealize.ShloMosaic.TcCoe Idealize.SL.Sem

namespace Cert.KernelIdeal.Loss

open Cert.KernelIdeal Cert.KernelIdeal.Gen

variable {F : FTy → Type} [FloatOps F] {e : EltTy}

/-- Class `c`'s row of a scratch buffer's contents. -/
def rowOf (A : Vec F S19x8x128 e) (c : ℕ) : Vec F S1x8x128 e := fun j => A ((rowAt c).toLoadRect.idx j)

/-- Slab `s`'s rows of class `c`'s logits in a block. -/
def slabLogits (x : Vec F S1x19x64x512 .f32) (s c : ℕ) : Vec F S1x1x16x512 .f32 := fun j => x ((logitsAt s c).toLoadRect.idx j)

/-- Slab `s`'s rows of targets in a block, as a plane. -/
def slabTargets (t : Vec F S1x64x512 .i32) (s : ℕ) : IVec S16x512 32 := tgt (F := F) fun j => t ((targetsAt s).toLoadRect.idx j)

/-- What a block's slabs do to a row of words. -/
def wordStep (x : Vec F S1x19x64x512 .f32) (t : Vec F S1x64x512 .i32) (s c : ℕ) : Vec F S1x8x128 .i32 → Vec F S1x8x128 .i32 :=
  rowWords (slabLogits x s) (slabTargets (F := F) t s) c

/-- What a block's slabs do to a row of floats. -/
def floatStep (x : Vec F S1x19x64x512 .f32) (t : Vec F S1x64x512 .i32) (s c : ℕ) : Vec F S1x8x128 .f32 → Vec F S1x8x128 .f32 :=
  rowFloats (slabLogits x s) (slabTargets (F := F) t s) c

/-- The body's loads of logits read the block's slabs. -/
theorem ldLogits_eq {a1 : Memref sig .tc .vmem S1x19x64x512 .f32} (h1 : a1.IsWhole) (x : Vec F S1x19x64x512 .f32) (s : ℕ) :
    ldLogits h1 x s = slabLogits x s := by
  funext c j
  show a1.view.read (Elt F) (h1.unread x) _ = _
  rw [h1.read_unread]
  rfl

/-- The body's loads of targets read the block's slabs. -/
theorem ldTargets_eq {a2 : Memref sig .tc .vmem S1x64x512 .i32} (h2 : a2.IsWhole) (t : Vec F S1x64x512 .i32) (s : ℕ) :
    ldTargets h2 t s = slabTargets (F := F) t s := by
  unfold ldTargets slabTargets
  congr 1
  funext j
  show a2.view.read (Elt F) (h2.unread t) _ = _
  rw [h2.read_unread]

/-- A row read off what a whole buffer holds. -/
theorem readAt_row {a : Memref sig .tc .vmem S19x8x128 e} (h : a.IsWhole) (A : Vec F S19x8x128 e) (c : ℕ) :
    a.view.readAt (Elt F) (rowAt c).toLoadRect (h.unread A) = rowOf A c := by
  funext j
  show a.view.read (Elt F) (h.unread A) _ = _
  rw [h.read_unread]
  rfl

/-- A row of what a list of stores leaves. -/
theorem rowOf_canon (v : View sig .tc .vmem S19x8x128 e) (l : List (View.Piece (Elt F) S19x8x128 e)) (c : ℕ) :
    rowOf (View.canon l) c = rdAll v c l := by
  unfold rdAll rowOf
  rw [View.readCov_eq_canon']
  rfl

/-- A row read off a store of the whole scratch. -/
theorem rdAll_fill (v : View sig .tc .vmem S19x8x128 e) (Z : Vec F S19x8x128 e) (c : ℕ) :
    rdAll v c [⟨Rect.unit (s := S19x8x128) ![0, 0, 0] S19x8x128.size inb_S19x8x128_S19x8x128_0_0_0, Z⟩] = rowOf Z c := by
  rw [← rowOf_canon, View.canon_unit_zero (funext fun a => by fin_cases a <;> rfl)]

/-- The class total reads the rows of the classes below its bound. -/
theorem classTotal_congr {W W' : ℕ → Vec F S1x8x128 .i32} {A A' : ℕ → Vec F S1x8x128 .f32} :
    ∀ n : ℕ, (∀ c, c < n → W c = W' c) → (∀ c, c < n → A c = A' c) → classTotal W A n = classTotal W' A' n
  | 0, _, _ => rfl
  | n + 1, hW, hA => by
    unfold classTotal
    rw [classTotal_congr n (fun c hc => hW c (by omega)) (fun c hc => hA c (by omega)), hW n (by omega), hA n (by omega)]

/-- The first point's words, row by row. -/
theorem after_words_A (c : Dev nD) (i : grid0.Coords) (a1 : Memref sig .tc .vmem S1x19x64x512 .f32) (h1 : a1.IsWhole)
    (a2 : Memref sig .tc .vmem S1x64x512 .i32) (h2 : a2.IsWhole) (a3 : Memref sig .tc .vmem S1x1 .f32) (h3 : a3.IsWhole)
    (a4 : Memref sig .tc .vmem S19x8x128 .i32) (h4 : a4.IsWhole) (a5 : Memref sig .tc .vmem S19x8x128 .f32) (h5 : a5.IsWhole)
    (hc : cond0_0 i) (hc1 : ¬cond0_1 i) (x : Vec F S1x19x64x512 .f32) (t : Vec F S1x64x512 .i32) {cl : ℕ} (hcl : cl < 19) :
    rowOf (sout0_A_0 c i a1 h1 a2 h2 a3 h3 a4 h4 a5 h5 hc hc1 x t) cl = slabs (wordStep x t) cl (rowOf k0_pay58 cl) 4 := by
  unfold sout0_A_0
  rw [View.read_writes_eq_canon _ _ _ (scover0_A_0 c i a1 h1 a2 h2 a3 h3 a4 h4 a5 h5 hc hc1 x t), words_A, rowOf_canon a4.view, rdAll_all a4.view _ _ hcl, rdAll_fill]
  simp only [ldLogits_eq, ldTargets_eq]
  rfl

/-- The first point's floats, row by row. -/
theorem after_floats_A (c : Dev nD) (i : grid0.Coords) (a1 : Memref sig .tc .vmem S1x19x64x512 .f32) (h1 : a1.IsWhole)
    (a2 : Memref sig .tc .vmem S1x64x512 .i32) (h2 : a2.IsWhole) (a3 : Memref sig .tc .vmem S1x1 .f32) (h3 : a3.IsWhole)
    (a4 : Memref sig .tc .vmem S19x8x128 .i32) (h4 : a4.IsWhole) (a5 : Memref sig .tc .vmem S19x8x128 .f32) (h5 : a5.IsWhole)
    (hc : cond0_0 i) (hc1 : ¬cond0_1 i) (x : Vec F S1x19x64x512 .f32) (t : Vec F S1x64x512 .i32) {cl : ℕ} (hcl : cl < 19) :
    rowOf (sout0_A_1 c i a1 h1 a2 h2 a3 h3 a4 h4 a5 h5 hc hc1 x t) cl = slabs (floatStep x t) cl (rowOf k0_pay59 cl) 4 := by
  unfold sout0_A_1
  rw [View.read_writes_eq_canon _ _ _ (scover0_A_1 c i a1 h1 a2 h2 a3 h3 a4 h4 a5 h5 hc hc1 x t), floats_A, rowOf_canon a5.view, rdAll_all a5.view _ _ hcl, rdAll_fill]
  simp only [ldLogits_eq, ldTargets_eq]
  rfl

/-- The middle point's words, row by row. -/
theorem after_words_B (c : Dev nD) (i : grid0.Coords) (a1 : Memref sig .tc .vmem S1x19x64x512 .f32) (h1 : a1.IsWhole)
    (a2 : Memref sig .tc .vmem S1x64x512 .i32) (h2 : a2.IsWhole) (a3 : Memref sig .tc .vmem S1x1 .f32) (h3 : a3.IsWhole)
    (a4 : Memref sig .tc .vmem S19x8x128 .i32) (h4 : a4.IsWhole) (a5 : Memref sig .tc .vmem S19x8x128 .f32) (h5 : a5.IsWhole)
    (hc : ¬cond0_0 i) (hc1 : ¬cond0_1 i) (x : Vec F S1x19x64x512 .f32) (t : Vec F S1x64x512 .i32) (A : Vec F S19x8x128 .i32) (B : Vec F S19x8x128 .f32) {cl : ℕ} (hcl : cl < 19) :
    rowOf (sout0_B_0 c i a1 h1 a2 h2 a3 h3 a4 h4 a5 h5 hc hc1 x t A B) cl = slabs (wordStep x t) cl (rowOf A cl) 4 := by
  unfold sout0_B_0
  rw [View.read_writes_eq_canon _ _ _ (scover0_B_0 c i a1 h1 a2 h2 a3 h3 a4 h4 a5 h5 hc hc1 x t A B), words_B, rowOf_canon a4.view, rdAll_held a4.view _ _ _ hcl, readAt_row]
  simp only [ldLogits_eq, ldTargets_eq]
  rfl

/-- The middle point's floats, row by row. -/
theorem after_floats_B (c : Dev nD) (i : grid0.Coords) (a1 : Memref sig .tc .vmem S1x19x64x512 .f32) (h1 : a1.IsWhole)
    (a2 : Memref sig .tc .vmem S1x64x512 .i32) (h2 : a2.IsWhole) (a3 : Memref sig .tc .vmem S1x1 .f32) (h3 : a3.IsWhole)
    (a4 : Memref sig .tc .vmem S19x8x128 .i32) (h4 : a4.IsWhole) (a5 : Memref sig .tc .vmem S19x8x128 .f32) (h5 : a5.IsWhole)
    (hc : ¬cond0_0 i) (hc1 : ¬cond0_1 i) (x : Vec F S1x19x64x512 .f32) (t : Vec F S1x64x512 .i32) (A : Vec F S19x8x128 .i32) (B : Vec F S19x8x128 .f32) {cl : ℕ} (hcl : cl < 19) :
    rowOf (sout0_B_1 c i a1 h1 a2 h2 a3 h3 a4 h4 a5 h5 hc hc1 x t A B) cl = slabs (floatStep x t) cl (rowOf B cl) 4 := by
  unfold sout0_B_1
  rw [View.read_writes_eq_canon _ _ _ (scover0_B_1 c i a1 h1 a2 h2 a3 h3 a4 h4 a5 h5 hc hc1 x t A B), floats_B, rowOf_canon a5.view, rdAll_held a5.view _ _ _ hcl, readAt_row]
  simp only [ldLogits_eq, ldTargets_eq]
  rfl

/-- The last point's words, row by row. -/
theorem after_words_C (c : Dev nD) (i : grid0.Coords) (a1 : Memref sig .tc .vmem S1x19x64x512 .f32) (h1 : a1.IsWhole)
    (a2 : Memref sig .tc .vmem S1x64x512 .i32) (h2 : a2.IsWhole) (a3 : Memref sig .tc .vmem S1x1 .f32) (h3 : a3.IsWhole)
    (a4 : Memref sig .tc .vmem S19x8x128 .i32) (h4 : a4.IsWhole) (a5 : Memref sig .tc .vmem S19x8x128 .f32) (h5 : a5.IsWhole)
    (hc : ¬cond0_0 i) (hc1 : cond0_1 i) (x : Vec F S1x19x64x512 .f32) (t : Vec F S1x64x512 .i32) (A : Vec F S19x8x128 .i32) (B : Vec F S19x8x128 .f32) {cl : ℕ} (hcl : cl < 19) :
    rowOf (sout0_C_0 c i a1 h1 a2 h2 a3 h3 a4 h4 a5 h5 hc hc1 x t A B) cl = slabs (wordStep x t) cl (rowOf A cl) 4 := by
  unfold sout0_C_0
  rw [View.read_writes_eq_canon _ _ _ (scover0_C_0 c i a1 h1 a2 h2 a3 h3 a4 h4 a5 h5 hc hc1 x t A B), words_C, rowOf_canon a4.view, rdAll_held a4.view _ _ _ hcl, readAt_row]
  simp only [ldLogits_eq, ldTargets_eq]
  rfl

/-- The last point's floats, row by row. -/
theorem after_floats_C (c : Dev nD) (i : grid0.Coords) (a1 : Memref sig .tc .vmem S1x19x64x512 .f32) (h1 : a1.IsWhole)
    (a2 : Memref sig .tc .vmem S1x64x512 .i32) (h2 : a2.IsWhole) (a3 : Memref sig .tc .vmem S1x1 .f32) (h3 : a3.IsWhole)
    (a4 : Memref sig .tc .vmem S19x8x128 .i32) (h4 : a4.IsWhole) (a5 : Memref sig .tc .vmem S19x8x128 .f32) (h5 : a5.IsWhole)
    (hc : ¬cond0_0 i) (hc1 : cond0_1 i) (x : Vec F S1x19x64x512 .f32) (t : Vec F S1x64x512 .i32) (A : Vec F S19x8x128 .i32) (B : Vec F S19x8x128 .f32) {cl : ℕ} (hcl : cl < 19) :
    rowOf (sout0_C_1 c i a1 h1 a2 h2 a3 h3 a4 h4 a5 h5 hc hc1 x t A B) cl = slabs (floatStep x t) cl (rowOf B cl) 4 := by
  unfold sout0_C_1
  rw [View.read_writes_eq_canon _ _ _ (scover0_C_1 c i a1 h1 a2 h2 a3 h3 a4 h4 a5 h5 hc hc1 x t A B), floats_C, rowOf_canon a5.view, rdAll_held a5.view _ _ _ hcl, readAt_row]
  simp only [ldLogits_eq, ldTargets_eq]
  rfl

/-- The last point's result: the weighted total over the rows it leaves, divided by the number of pixels. -/
theorem after_result (c : Dev nD) (i : grid0.Coords) (a1 : Memref sig .tc .vmem S1x19x64x512 .f32) (h1 : a1.IsWhole)
    (a2 : Memref sig .tc .vmem S1x64x512 .i32) (h2 : a2.IsWhole) (a3 : Memref sig .tc .vmem S1x1 .f32) (h3 : a3.IsWhole)
    (a4 : Memref sig .tc .vmem S19x8x128 .i32) (h4 : a4.IsWhole) (a5 : Memref sig .tc .vmem S19x8x128 .f32) (h5 : a5.IsWhole)
    (hc : ¬cond0_0 i) (hc1 : cond0_1 i) (x : Vec F S1x19x64x512 .f32) (t : Vec F S1x64x512 .i32) (A : Vec F S19x8x128 .i32) (B : Vec F S19x8x128 .f32) :
    out0_C_2 c i a1 h1 a2 h2 a3 h3 a4 h4 a5 h5 hc hc1 x t A B = broadcast S1x1 (Scalar.divf
      (classTotal (fun k => slabs (wordStep x t) k (rowOf A k) 4) (fun k => slabs (floatStep x t) k (rowOf B k) 4) 19)
      (Scalar.ofBits .f32 0x4A000000#32)) := by
  unfold out0_C_2
  rw [View.read_writes_eq_canon _ _ _ (cover0_C_2 c i a1 h1 a2 h2 a3 h3 a4 h4 a5 h5 hc hc1 x t A B), result_C, View.canon_unit_zero (funext fun a => by fin_cases a <;> rfl)]
  rw [classTotal_congr 19 (W' := fun k => slabs (wordStep x t) k (rowOf A k) 4) (A' := fun k => slabs (floatStep x t) k (rowOf B k) 4)]
  · intro k hk
    rw [rdAll_held a4.view _ _ _ hk, readAt_row]
    simp only [ldLogits_eq, ldTargets_eq]
    rfl
  · intro k hk
    rw [rdAll_held a5.view _ _ _ hk, readAt_row]
    simp only [ldLogits_eq, ldTargets_eq]
    rfl

end Cert.KernelIdeal.Loss

end
-- ==== Proof.Cells.lean ====
/- The pixels as the kernel visits them: one scratch cell gathers, over the 64 points and each point's four slabs, two rows of
   four columns; summed over the 8x128 cells this is every pixel once. -/
module

public import Mathlib.Algebra.BigOperators.Group.Finset.Basic
public import Mathlib.Algebra.BigOperators.Intervals
public import Mathlib.Tactic.Ring

@[expose] public section

noncomputable section

namespace Cert.Loss

open Finset

variable {M : Type} [AddCommMonoid M]

/-- What one slab adds to cell `(a, b)`. -/
def slabCell (G : ℕ → ℕ → ℕ → M) (t s a b : ℕ) : M :=
  ∑ h ∈ range 2, ∑ q ∈ range 4, G (t / 8) (64 * (t % 8) + 16 * s + (8 * h + a)) (128 * q + b)

/-- What the first `n` points add to cell `(a, b)`. -/
def cell (G : ℕ → ℕ → ℕ → M) (a b n : ℕ) : M := ∑ t ∈ range n, ∑ s ∈ range 4, slabCell G t s a b

/-- The sum over every pixel. -/
def pixels (G : ℕ → ℕ → ℕ → M) : M := ∑ i ∈ range 8, ∑ y ∈ range 512, ∑ l ∈ range 512, G i y l

/-- A range of products is a range of blocks. -/
theorem sum_blocks (f : ℕ → M) (n : ℕ) : ∀ m : ℕ, ∑ k ∈ range (n * m), f k = ∑ i ∈ range m, ∑ j ∈ range n, f (n * i + j)
  | 0 => by simp
  | m + 1 => by rw [Nat.mul_succ, sum_range_add, sum_range_succ, sum_blocks f n m]

/-- A cell after one more point. -/
theorem cell_succ (G : ℕ → ℕ → ℕ → M) (a b n : ℕ) : cell G a b (n + 1) = cell G a b n + ∑ s ∈ range 4, slabCell G n s a b :=
  sum_range_succ _ n

/-- A sum over `b` moved inside five others. -/
theorem move_five (X : ℕ → ℕ → ℕ → ℕ → ℕ → ℕ → M) (B I U S H Q : Finset ℕ) :
    ∑ b ∈ B, ∑ i ∈ I, ∑ u ∈ U, ∑ s ∈ S, ∑ h ∈ H, ∑ q ∈ Q, X b i u s h q
      = ∑ i ∈ I, ∑ u ∈ U, ∑ s ∈ S, ∑ h ∈ H, ∑ q ∈ Q, ∑ b ∈ B, X b i u s h q :=
  sum_comm.trans (sum_congr rfl fun _ _ => sum_comm.trans (sum_congr rfl fun _ _ => sum_comm.trans
    (sum_congr rfl fun _ _ => sum_comm.trans (sum_congr rfl fun _ _ => sum_comm))))

/-- A sum over `a` moved inside four others. -/
theorem move_four (X : ℕ → ℕ → ℕ → ℕ → ℕ → M) (A I U S H : Finset ℕ) :
    ∑ a ∈ A, ∑ i ∈ I, ∑ u ∈ U, ∑ s ∈ S, ∑ h ∈ H, X a i u s h = ∑ i ∈ I, ∑ u ∈ U, ∑ s ∈ S, ∑ h ∈ H, ∑ a ∈ A, X a i u s h :=
  sum_comm.trans (sum_congr rfl fun _ _ => sum_comm.trans (sum_congr rfl fun _ _ => sum_comm.trans
    (sum_congr rfl fun _ _ => sum_comm)))

/-- The cells after every point hold every pixel once. -/
theorem sum_cells (G : ℕ → ℕ → ℕ → M) : ∑ a ∈ range 8, ∑ b ∈ range 128, cell G a b 64 = pixels G := by
  have hp : pixels G = ∑ i ∈ range 8, ∑ u ∈ range 8, ∑ s ∈ range 4, ∑ h ∈ range 2, ∑ a ∈ range 8, ∑ q ∈ range 4, ∑ b ∈ range 128,
      G i (64 * u + (16 * s + (8 * h + a))) (128 * q + b) := by
    unfold pixels
    refine sum_congr rfl fun i _ => ?_
    rw [show (512 : ℕ) = 64 * 8 from rfl, sum_blocks _ 64 8]
    refine sum_congr rfl fun u _ => ?_
    rw [show (64 : ℕ) = 16 * 4 from rfl, sum_blocks _ 16 4]
    refine sum_congr rfl fun s _ => ?_
    rw [show (16 : ℕ) = 8 * 2 from rfl, sum_blocks _ 8 2]
    refine sum_congr rfl fun h _ => sum_congr rfl fun a _ => ?_
    rw [show (8 * 2 * 4 * 8 : ℕ) = 128 * 4 from rfl, sum_blocks _ 128 4]
  have hc : ∀ a b, cell G a b 64 = ∑ i ∈ range 8, ∑ u ∈ range 8, ∑ s ∈ range 4, ∑ h ∈ range 2, ∑ q ∈ range 4,
      G i (64 * u + (16 * s + (8 * h + a))) (128 * q + b) := by
    intro a b
    unfold cell
    rw [show (64 : ℕ) = 8 * 8 from rfl, sum_blocks _ 8 8]
    refine sum_congr rfl fun i _ => sum_congr rfl fun u hu => ?_
    have hu' : u < 8 := mem_range.mp hu
    unfold slabCell
    rw [show (8 * i + u) / 8 = i by omega, show (8 * i + u) % 8 = u by omega]
    simp only [Nat.add_assoc]
  rw [hp]
  simp only [hc]
  rw [sum_congr rfl fun a _ => move_five (fun b i u s h q => G i (64 * u + (16 * s + (8 * h + a))) (128 * q + b)) (range 128) (range 8) (range 8) (range 4) (range 2) (range 4)]
  exact move_four (fun a i u s h => ∑ q ∈ range 4, ∑ b ∈ range 128, G i (64 * u + (16 * s + (8 * h + a))) (128 * q + b)) _ _ _ _ _

end Cert.Loss

end
-- ==== Proof.Pixel.lean ====
/- One pixel and the whole loss over the extended reals: what the kernel's three lanes come to for a pixel's nineteen logits,
   the cross entropy and the miss of a pixel, the per-class totals over every pixel, and the loss they make. -/
module

public import proofs.«01_k».proof.Proof.Cells
public import Idealize.ShloMosaic.PureOps.Ideal.Laws

@[expose] public section

noncomputable section

namespace Cert.Loss

open Finset Idealize.ShloMosaic

/-! ## A pixel's nineteen logits -/

/-- Lane `k`'s largest logit over its classes `k, k + 3, …, k + 3n`. -/
def lmax (v : ℕ → EReal) (k : ℕ) : ℕ → EReal
  | 0 => v k
  | n + 1 => max (lmax v k n) (v (k + 3 * (n + 1)))

/-- Lane `k`'s sum of exponentials. -/
def lsum (v : ℕ → EReal) (k : ℕ) : ℕ → EReal
  | 0 => Ideal.exp (v k)
  | n + 1 => lsum v k n + Ideal.exp (v (k + 3 * (n + 1)))

/-- Lane `k`'s logit of the target's class, zero if the lane has not met it. -/
def lpick (v : ℕ → EReal) (T : BitVec 32) (k : ℕ) : ℕ → EReal
  | 0 => if T = BitVec.ofNat 32 k then v k else 0
  | n + 1 => if T = BitVec.ofNat 32 (k + 3 * (n + 1)) then v (k + 3 * (n + 1)) else lpick v T k n

/-- The largest of the nineteen logits, lane by lane. -/
def ktop (v : ℕ → EReal) : EReal := max (max (lmax v 0 6) (lmax v 1 5)) (lmax v 2 5)

/-- The sum of the exponentials, lane by lane. -/
def ksum (v : ℕ → EReal) : EReal := lsum v 0 6 + lsum v 1 5 + lsum v 2 5

/-- The target's logit, lane by lane. -/
def kpick (v : ℕ → EReal) (T : BitVec 32) : EReal := lpick v T 0 6 + lpick v T 1 5 + lpick v T 2 5

/-- The pixel's cross entropy. -/
def ce (v : ℕ → EReal) (T : BitVec 32) : EReal := Ideal.log (ksum v) - kpick v T

/-- The largest logit. -/
def best (v : ℕ → EReal) : EReal := (range 19).sup v

/-- The lanes' largest logit is the largest logit. -/
theorem ktop_eq (v : ℕ → EReal) : ktop v = best v := by
  have hle : ∀ c, c < 19 → v c ≤ best v := fun c hc => le_sup (f := v) (mem_range.mpr hc)
  apply le_antisymm
  · simp only [ktop, lmax, max_le_iff]
    refine ⟨⟨?_, ?_⟩, ?_⟩ <;> simp only [and_assoc] <;> (repeat' apply And.intro) <;> exact hle _ (by norm_num)
  · refine Finset.sup_le fun c hc => ?_
    have hc' := mem_range.mp hc
    simp only [ktop, lmax]
    simp only [le_max_iff]
    interval_cases c <;> simp only [Nat.reduceMul, Nat.reduceAdd, le_refl, true_or, or_true]

/-- The lanes' sums make the sum over the classes. -/
theorem ksum_eq (v : ℕ → EReal) : ksum v = ∑ c ∈ range 19, Ideal.exp (v c) := by
  simp only [ksum, lsum, sum_range_succ, sum_range_zero]
  norm_num
  abel

/-- The lanes pick the target's logit. -/
theorem kpick_eq (v : ℕ → EReal) {c : ℕ} (hc : c < 19) : kpick v (BitVec.ofNat 32 c) = v c := by
  simp only [kpick, lpick]
  interval_cases c <;> simp

/-- A positive real weight goes inside a sum. -/
theorem mul_sum_real {ι : Type} (w : ℝ) (hw : 0 ≤ w) (s : Finset ι) (f : ι → EReal) : (w : EReal) * ∑ i ∈ s, f i = ∑ i ∈ s, (w : EReal) * f i := by
  classical
  induction s using Finset.induction_on with
  | empty => simp
  | insert a s ha ih =>
    rw [sum_insert ha, sum_insert ha, EReal.left_distrib_of_nonneg_of_ne_top (by exact_mod_cast hw) (EReal.coe_ne_top w), ih]

/-- Finite sums of reals as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The cross entropy from the log-softmax, when the largest logit is finite. -/
theorem ce_finite (v : ℕ → EReal) (hlo : best v ≠ ⊥) (hhi : best v ≠ ⊤) {T : ℕ} (hT : T < 19) :
    -((v T - best v) - Ideal.log (∑ c ∈ range 19, Ideal.exp (v c - best v))) = ce v (BitVec.ofNat 32 T) := by
  obtain ⟨μ, hμ⟩ : ∃ μ : ℝ, best v = (μ : EReal) := ⟨(best v).toReal, (EReal.coe_toReal hhi hlo).symm⟩
  have hle : ∀ c, c < 19 → v c ≤ (μ : EReal) := fun c hc => hμ ▸ le_sup (f := v) (mem_range.mpr hc)
  obtain ⟨b, hb, hbv⟩ := exists_mem_eq_sup (range 19) (by simp) v
  have hbv' : v b = (μ : EReal) := by rw [← hμ]; exact hbv.symm
  let e : ℕ → ℝ := fun c => if v c = ⊥ then 0 else Real.exp (v c).toReal
  have he : ∀ c, c < 19 → Ideal.exp (v c) = (e c : EReal) ∧ Ideal.exp (v c - μ) = ((e c * Real.exp (-μ) : ℝ) : EReal) := by
    intro c hc
    by_cases h : v c = ⊥
    · simp only [e, h, if_true, zero_mul]
      constructor
      · rfl
      · rw [EReal.bot_sub]; rfl
    · have ht : v c ≠ ⊤ := fun h' => by
        have := hle c hc
        rw [h', top_le_iff] at this
        exact EReal.coe_ne_top _ this
      simp only [e, h, if_false]
      have hv := (EReal.coe_toReal ht h)
      constructor
      · conv_lhs => rw [← hv]
        rfl
      · conv_lhs => rw [← hv, ← EReal.coe_sub]
        rw [← Real.exp_add, ← sub_eq_add_neg]
        rfl
  have hpos : 0 < ∑ c ∈ range 19, e c := by
    refine sum_pos' (fun c _ => ?_) ⟨b, hb, ?_⟩
    · simp only [e]; split <;> positivity
    · simp only [e, hbv', EReal.coe_ne_bot, if_false]; positivity
  have hlog : ∀ r : ℝ, 0 < r → Ideal.log (r : EReal) = (Real.log r : EReal) := fun r hr => by
    show (if r ≤ 0 then (⊥ : EReal) else (Real.log r : EReal)) = _
    rw [if_neg (not_le.mpr hr)]
  have hS : ∑ c ∈ range 19, Ideal.exp (v c - best v) = (((∑ c ∈ range 19, e c) * Real.exp (-μ) : ℝ) : EReal) := by
    rw [sum_mul, coe_sum, hμ]
    exact sum_congr rfl fun c hc => (he c (mem_range.mp hc)).2
  have hK : ksum v = ((∑ c ∈ range 19, e c : ℝ) : EReal) := by
    rw [ksum_eq, coe_sum]
    exact sum_congr rfl fun c hc => (he c (mem_range.mp hc)).1
  unfold ce
  rw [hS, hK, hlog _ hpos, hlog _ (mul_pos hpos (Real.exp_pos _)), Real.log_mul hpos.ne' (Real.exp_pos _).ne', Real.log_exp, kpick_eq v hT, hμ]
  by_cases h : v T = ⊥
  · rw [h, EReal.bot_sub, EReal.bot_sub, EReal.neg_bot]
    rfl
  · have ht : v T ≠ ⊤ := fun h' => by
      have := hle T hT
      rw [h', top_le_iff] at this
      exact EReal.coe_ne_top _ this
    rw [← EReal.coe_toReal ht h]
    norm_cast
    ring

/-- And when the largest is plus infinity but the target's is not: both are plus infinity. -/
theorem ce_top (v : ℕ → EReal) (h : best v = ⊤) {T : ℕ} (hT : T < 19) (hvT : v T ≠ ⊤) :
    -((v T - best v) - Ideal.log (∑ c ∈ range 19, Ideal.exp (v c - best v))) = ce v (BitVec.ofNat 32 T) := by
  obtain ⟨b, hb, hbv⟩ := exists_mem_eq_sup (range 19) (by simp) v
  have hbv' : v b = ⊤ := hbv.symm.trans h
  have hn : ∀ r : EReal, 0 ≤ Ideal.exp r := fun r => by
    induction r with
    | bot => exact le_rfl
    | coe r => exact EReal.coe_nonneg.mpr (Real.exp_pos r).le
    | top => exact le_top
  have hK : ksum v = ⊤ := by
    rw [ksum_eq]
    refine top_le_iff.mp (le_trans (le_of_eq ?_) (single_le_sum (fun c _ => hn (v c)) hb))
    rw [hbv']
    rfl
  unfold ce
  rw [hK, kpick_eq v hT, h, EReal.sub_top, EReal.bot_sub, EReal.neg_bot, show Ideal.log ⊤ = ⊤ from rfl]
  symm
  generalize v T = r at hvT
  induction r with
  | bot => rfl
  | coe r => exact EReal.top_sub_coe r
  | top => exact absurd rfl hvT

/-- The cross entropy from the log-softmax, when some logit is above minus infinity and the target's below plus infinity. -/
theorem ce_eq (v : ℕ → EReal) (hlo : best v ≠ ⊥) {T : ℕ} (hT : T < 19) (hvT : v T ≠ ⊤) :
    -((v T - best v) - Ideal.log (∑ c ∈ range 19, Ideal.exp (v c - best v))) = ce v (BitVec.ofNat 32 T) := by
  by_cases h : best v = ⊤
  · exact ce_top v h hT hvT
  · exact ce_finite v hlo h hT

/-! ## The whole loss -/

/-- The array index of a pixel's logit. -/
def at4 (i y l c : ℕ) : (⟨4, ![8, 19, 512, 512]⟩ : Shape).Idx := fun a => match a with
  | ⟨0, _⟩ => ⟨i % 8, Nat.mod_lt _ (by decide)⟩
  | ⟨1, _⟩ => ⟨c % 19, Nat.mod_lt _ (by decide)⟩
  | ⟨2, _⟩ => ⟨y % 512, Nat.mod_lt _ (by decide)⟩
  | ⟨3, _⟩ => ⟨l % 512, Nat.mod_lt _ (by decide)⟩

/-- The array index of a pixel's target. -/
def at3 (i y l : ℕ) : (⟨3, ![8, 512, 512]⟩ : Shape).Idx := fun a => match a with
  | ⟨0, _⟩ => ⟨i % 8, Nat.mod_lt _ (by decide)⟩
  | ⟨1, _⟩ => ⟨y % 512, Nat.mod_lt _ (by decide)⟩
  | ⟨2, _⟩ => ⟨l % 512, Nat.mod_lt _ (by decide)⟩

/-- A pixel's logits by class. -/
def logits (x : FVec Ideal ⟨4, ![8, 19, 512, 512]⟩ .f32) (i y l : ℕ) : ℕ → EReal := fun c => x (at4 i y l c)

/-- A pixel's target. -/
def target (t : IVec ⟨3, ![8, 512, 512]⟩ 32) (i y l : ℕ) : BitVec 32 := t (at3 i y l)

open Classical in
/-- One where the pixel's target is class `c`. -/
def isOf (T : BitVec 32) (c : ℕ) : ℕ := if T = BitVec.ofNat 32 c then 1 else 0

open Classical in
/-- One where the pixel's target is class `c` and its logit is below the largest. -/
def missOf (v : ℕ → EReal) (T : BitVec 32) (c : ℕ) : ℕ := if T = BitVec.ofNat 32 c ∧ kpick v T < ktop v then 1 else 0

open Classical in
/-- The pixel's cross entropy where its target is class `c`. -/
def ceOf (v : ℕ → EReal) (T : BitVec 32) (c : ℕ) : EReal := if T = BitVec.ofNat 32 c then ce v T else 0

/-- A count as a weight's part: one for an empty class. -/
def orOneN (n : ℕ) : EReal := if 0 < n then ((n : ℝ) : EReal) else 1

/-- The weight of a class of `n` pixels of which `k` are missed. -/
def weightOf (n k : ℕ) : EReal := Ideal.div (orOneN k) (orOneN n + Ideal.ofBits .f32 0x33D6BF95#32)

/-- The small constant is a positive real. -/
theorem eps_real : ∃ e : ℝ, 0 < e ∧ Ideal.ofBits .f32 0x33D6BF95#32 = (e : EReal) := by
  refine ⟨1 * (2 ^ 23 + 5685141 : ℕ) * (2 : ℝ) ^ ((103 : ℤ) - 127 - 23), by positivity, ?_⟩
  show Ideal.ieee 8 23 0x33D6BF95#32 = _
  unfold Ideal.ieee
  have h1 : (BitVec.extractLsb' (8 + 23) 1 0x33D6BF95#32 == 1#1) = false := by decide
  have h2 : (BitVec.extractLsb' 23 8 0x33D6BF95#32).toNat = 103 := by decide
  have h3 : (BitVec.extractLsb' 0 23 0x33D6BF95#32).toNat = 5685141 := by decide
  rw [h1, h2, h3]
  norm_num

/-- A weight is a nonnegative real. -/
theorem weight_real (n k : ℕ) : ∃ w : ℝ, 0 ≤ w ∧ weightOf n k = (w : EReal) := by
  have ho : ∀ n : ℕ, ∃ r : ℝ, 0 < r ∧ orOneN n = (r : EReal) := fun n => by
    by_cases h : 0 < n
    · exact ⟨n, by exact_mod_cast h, by rw [orOneN, if_pos h]⟩
    · exact ⟨1, one_pos, by rw [orOneN, if_neg h]; rfl⟩
  obtain ⟨e, he, hee⟩ := eps_real
  obtain ⟨a, ha, hae⟩ := ho n
  obtain ⟨b, hb, hbe⟩ := ho k
  refine ⟨b * (1 / (a + e)), by positivity, ?_⟩
  rw [weightOf, hee, hae, hbe, ← EReal.coe_add, Ideal.div_coe (by positivity), EReal.coe_mul]

variable (x : FVec Ideal ⟨4, ![8, 19, 512, 512]⟩ .f32) (t : IVec ⟨3, ![8, 512, 512]⟩ 32)

/-- Class `c`'s number of pixels. -/
def countOf (c : ℕ) : ℕ := pixels fun i y l => isOf (target t i y l) c

/-- Class `c`'s number of missed pixels. -/
def missedOf (c : ℕ) : ℕ := pixels fun i y l => missOf (logits x i y l) (target t i y l) c

/-- Class `c`'s sum of cross entropies. -/
def lossOf (c : ℕ) : EReal := pixels fun i y l => ceOf (logits x i y l) (target t i y l) c

/-- The loss: each class's weight times its sum of cross entropies, over the number of pixels. -/
def lossValue : EReal :=
  Ideal.div (∑ c ∈ range 19, weightOf (countOf t c) (missedOf x t c) * lossOf x t c) (Ideal.ofBits .f32 0x4A000000#32)

/-- The loss pixel by pixel: each pixel's cross entropy times its class's weight. -/
theorem lossValue_pixels (ht : ∀ i y l, ∃ T, T < 19 ∧ target t i y l = BitVec.ofNat 32 T) (W : ℕ → EReal)
    (hW : ∀ c, c < 19 → W c = weightOf (countOf t c) (missedOf x t c)) :
    lossValue x t = Ideal.div (pixels fun i y l => W (target t i y l).toNat * ce (logits x i y l) (target t i y l)) (Ideal.ofBits .f32 0x4A000000#32) := by
  unfold lossValue
  refine congrArg (fun s => Ideal.div s (Ideal.ofBits .f32 0x4A000000#32)) ?_
  have h1 : ∀ c ∈ range 19, weightOf (countOf t c) (missedOf x t c) * lossOf x t c
      = ∑ i ∈ range 8, ∑ y ∈ range 512, ∑ l ∈ range 512, W c * ceOf (logits x i y l) (target t i y l) c := by
    intro c hc
    rw [hW c (mem_range.mp hc)]
    obtain ⟨w, hw, hwe⟩ := weight_real (countOf t c) (missedOf x t c)
    unfold lossOf pixels
    rw [hwe, mul_sum_real w hw]
    refine sum_congr rfl fun i _ => ?_
    rw [mul_sum_real w hw]
    refine sum_congr rfl fun y _ => ?_
    rw [mul_sum_real w hw]
  rw [sum_congr rfl h1]
  unfold pixels
  rw [sum_comm]
  refine sum_congr rfl fun i _ => ?_
  rw [sum_comm]
  refine sum_congr rfl fun y _ => ?_
  rw [sum_comm]
  refine sum_congr rfl fun l _ => ?_
  obtain ⟨T, hT, hTe⟩ := ht i y l
  have hne : ∀ c ∈ range 19, c ≠ T → W c * ceOf (logits x i y l) (target t i y l) c = 0 := by
    intro c hc hcT
    rw [ceOf, if_neg, mul_zero]
    rw [hTe]
    intro h
    have := congrArg BitVec.toNat h
    rw [BitVec.toNat_ofNat, BitVec.toNat_ofNat] at this
    have := mem_range.mp hc
    omega
  rw [sum_eq_single_of_mem T (mem_range.mpr hT) hne, ceOf, if_pos hTe]
  show _ = W (target t i y l).toNat * _
  rw [hTe, BitVec.toNat_ofNat, Nat.mod_eq_of_lt (by omega)]

end Cert.Loss

end
-- ==== Proof.Lanes.lean ====
/- One slab over the extended reals, cell by cell: the fold of a [16,512] array is a sum of eight of its elements, a class's row
   of floats gains the cross entropies of its pixels, and its row of words gains one for each of its pixels and `2^16` more for
   each missed one. -/
module

public import proofs.«01_k».proof.Proof.Point
public import proofs.«01_k».proof.Proof.Pixel

@[expose] public section

noncomputable section

open Idealize.ShloMosaic Idealize.ShloMosaic.TcCoe Idealize.SL.Sem

namespace Cert.KernelIdeal.Loss

open Cert.KernelIdeal Cert.KernelIdeal.Gen Cert.Loss Finset

/-- The index of a slab's pixel. -/
def at16 (y l : ℕ) : S16x512.Idx := fun a => match a with
  | ⟨0, _⟩ => ⟨y % 16, Nat.mod_lt _ (by decide)⟩
  | ⟨1, _⟩ => ⟨l % 512, Nat.mod_lt _ (by decide)⟩

/-- The index of a scratch row's cell. -/
def at8 (a b : ℕ) : S1x8x128.Idx := fun k => match k with
  | ⟨0, _⟩ => ⟨0, Nat.one_pos⟩
  | ⟨1, _⟩ => ⟨a % 8, Nat.mod_lt _ (by decide)⟩
  | ⟨2, _⟩ => ⟨b % 128, Nat.mod_lt _ (by decide)⟩

/-- The index of a [8,128] array's cell. -/
def in8 (a b : ℕ) : S8x128.Idx := fun k => match k with
  | ⟨0, _⟩ => ⟨a % 8, Nat.mod_lt _ (by decide)⟩
  | ⟨1, _⟩ => ⟨b % 128, Nat.mod_lt _ (by decide)⟩

/-- The index of a [8,512] array's cell. -/
def mid (a l : ℕ) : S8x512.Idx := fun k => match k with
  | ⟨0, _⟩ => ⟨a % 8, Nat.mod_lt _ (by decide)⟩
  | ⟨1, _⟩ => ⟨l % 512, Nat.mod_lt _ (by decide)⟩

section Slices
variable {α : Type}

/-- The upper half of the rows. -/
theorem slice_rows0 (A : S16x512.Idx → α) (h : S16x512.Slices ![0, 0] S8x512) {a l : ℕ} (ha : a < 8) :
    extractStridedSlice S8x512 ![0, 0] A h (mid a l) = A (at16 (8 * 0 + a) l) :=
  extractStridedSlice_apply _ A h _ _ fun k => by
    match k with
    | ⟨0, _⟩ => show (8 * 0 + a) % 16 = 0 + a % 8; omega
    | ⟨1, _⟩ => show l % 512 = 0 + l % 512; omega

/-- The lower half of the rows. -/
theorem slice_rows1 (A : S16x512.Idx → α) (h : S16x512.Slices ![8, 0] S8x512) {a l : ℕ} (ha : a < 8) :
    extractStridedSlice S8x512 ![8, 0] A h (mid a l) = A (at16 (8 * 1 + a) l) :=
  extractStridedSlice_apply _ A h _ _ fun k => by
    match k with
    | ⟨0, _⟩ => show (8 * 1 + a) % 16 = 8 + a % 8; omega
    | ⟨1, _⟩ => show l % 512 = 0 + l % 512; omega

/-- A quarter of the columns. -/
theorem slice_cols (q o : ℕ) (ho : o = 128 * q) (hq : q < 4) (A : S8x512.Idx → α) (h : S8x512.Slices ![0, o] S8x128) {a b : ℕ} (hb : b < 128) :
    extractStridedSlice S8x128 ![0, o] A h (in8 a b) = A (mid a (128 * q + b)) :=
  extractStridedSlice_apply _ A h _ _ fun k => by
    match k with
    | ⟨0, _⟩ => show a % 8 = 0 + a % 8; omega
    | ⟨1, _⟩ => show (128 * q + b) % 512 = o + b % 128; omega

/-- A scratch row's cell as a cell of its plane. -/
theorem row_plane (p : S1x8x128.Idx → α) (h : S1x8x128.ShapeCasts S8x128) (a b : ℕ) : shapeCast S8x128 p h (in8 a b) = p (at8 a b) :=
  shapeCast_apply p h _ _ (by
    rewrite [Shape.rowMajor_val_three, Shape.rowMajor_val_two]
    show (0 * 8 + a % 8) * 128 + b % 128 = a % 8 * 128 + b % 128
    omega)

/-- A plane's cell as a scratch row's. -/
theorem plane_row (p : S8x128.Idx → α) (h : S8x128.ShapeCasts S1x8x128) (a b : ℕ) : shapeCast S1x8x128 p h (at8 a b) = p (in8 a b) :=
  shapeCast_apply p h _ _ (by
    rewrite [Shape.rowMajor_val_three, Shape.rowMajor_val_two]
    show a % 8 * 128 + b % 128 = (0 * 8 + a % 8) * 128 + b % 128
    omega)

end Slices

/-- The fold of an array of floats, cell by cell. -/
theorem foldFloats_apply (A : FVec Ideal S16x512 .f32) {a b : ℕ} (ha : a < 8) (hb : b < 128) :
    foldFloats A (in8 a b) = ∑ h ∈ range 2, ∑ q ∈ range 4, A (at16 (8 * h + a) (128 * q + b)) := by
  unfold foldFloats
  show (((_ + _ : EReal) + _) + _) = _
  rw [slice_cols 0 0 rfl (by decide) _ _ hb, slice_cols 1 128 rfl (by decide) _ _ hb, slice_cols 2 256 rfl (by decide) _ _ hb, slice_cols 3 384 rfl (by decide) _ _ hb]
  show (((_ + _ : EReal) + (_ + _ : EReal)) + (_ + _ : EReal)) + (_ + _ : EReal) = _
  simp only [slice_rows0 A _ ha, slice_rows1 A _ ha, sum_range_succ, sum_range_zero, zero_add]
  abel

/-- The fold of an array of words that hold naturals, cell by cell. -/
theorem foldWords_apply (A : IVec S16x512 32) (g : ℕ → ℕ → ℕ) (hg : ∀ y l, A (at16 y l) = BitVec.ofNat 32 (g y l)) {a b : ℕ} (ha : a < 8) (hb : b < 128) :
    foldWords A (in8 a b) = BitVec.ofNat 32 (∑ h ∈ range 2, ∑ q ∈ range 4, g (8 * h + a) (128 * q + b)) := by
  unfold foldWords
  show (((_ + _ : BitVec 32) + _) + _) = _
  rw [slice_cols 0 0 rfl (by decide) _ _ hb, slice_cols 1 128 rfl (by decide) _ _ hb, slice_cols 2 256 rfl (by decide) _ _ hb, slice_cols 3 384 rfl (by decide) _ _ hb]
  show (((_ + _ : BitVec 32) + (_ + _ : BitVec 32)) + (_ + _ : BitVec 32)) + (_ + _ : BitVec 32) = _
  simp only [slice_rows0 A _ ha, slice_rows1 A _ ha, hg, ← BitVec.ofNat_add]
  refine congrArg (BitVec.ofNat 32) ?_
  simp only [sum_range_succ, sum_range_zero, zero_add]
  abel

/-! ## The slab's pixels -/

variable (L : ℕ → Vec Ideal S1x1x16x512 .f32) (t : IVec S16x512 32)

/-- A slab's pixel's logits by class. -/
def slabPixel (y l : ℕ) : ℕ → EReal := fun c => plane (L c) (at16 y l)

/-- Where the target is a class, as a choice. -/
theorem select_isClass {α : Type} (c : ℕ) (j : S16x512.Idx) (p q : α) :
    Scalar.select (isClass t c j) p q = if t j = BitVec.ofNat 32 c then p else q := by
  show (if (BitVec.ofBool (decide (t j = BitVec.ofNat 32 c))) = 1 then p else q) = _
  by_cases h : t j = BitVec.ofNat 32 c <;> simp [h]

theorem laneMax_apply (k y l : ℕ) : ∀ n, laneMax L k n (at16 y l) = lmax (slabPixel L y l) k n
  | 0 => rfl
  | n + 1 => by
    show max (laneMax L k n (at16 y l)) _ = _
    rw [laneMax_apply k y l n]
    rfl

theorem laneSum_apply (k y l : ℕ) : ∀ n, laneSum L k n (at16 y l) = lsum (slabPixel L y l) k n
  | 0 => rfl
  | n + 1 => by
    show laneSum L k n (at16 y l) + _ = _
    rw [laneSum_apply k y l n]
    rfl

theorem zero_f32 : (Scalar.ofBits .f32 0x00000000#32 : Ideal .f32) = 0 := Ideal.ofBits_zero_f32

theorem lanePick_apply (k y l : ℕ) : ∀ n, lanePick L t k n (at16 y l) = lpick (slabPixel L y l) (t (at16 y l)) k n
  | 0 => by
    show Scalar.select (isClass t k (at16 y l)) _ (Scalar.ofBits .f32 0x00000000#32 : Ideal .f32) = _
    rw [select_isClass, zero_f32]
    rfl
  | n + 1 => by
    show Scalar.select (isClass t (k + 3 * (n + 1)) (at16 y l)) _ (lanePick L t k n (at16 y l)) = _
    rw [select_isClass, lanePick_apply k y l n]
    rfl

theorem picked_apply (y l : ℕ) : picked L t (at16 y l) = kpick (slabPixel L y l) (t (at16 y l)) := by
  show (lanePick L t 0 6 (at16 y l) + lanePick L t 1 5 (at16 y l) + lanePick L t 2 5 (at16 y l) : EReal) = _
  rw [lanePick_apply, lanePick_apply, lanePick_apply]
  rfl

theorem top_apply (y l : ℕ) : top L (at16 y l) = ktop (slabPixel L y l) := by
  show max (max (laneMax L 0 6 (at16 y l)) (laneMax L 1 5 (at16 y l))) (laneMax L 2 5 (at16 y l)) = _
  rw [laneMax_apply, laneMax_apply, laneMax_apply]
  rfl

/-- A slab's pixel's cross entropy. -/
theorem crossEnt_apply (y l : ℕ) : crossEnt L t (at16 y l) = ce (slabPixel L y l) (t (at16 y l)) := by
  show Ideal.log (laneSum L 0 6 (at16 y l) + laneSum L 1 5 (at16 y l) + laneSum L 2 5 (at16 y l) : EReal) - picked L t (at16 y l) = _
  rw [picked_apply, laneSum_apply, laneSum_apply, laneSum_apply]
  rfl

/-- What a slab's pixel adds to class `c`'s word. -/
def packOf (v : ℕ → EReal) (T : BitVec 32) (c : ℕ) : ℕ := isOf T c + 65536 * missOf v T c

theorem packed_apply (c y l : ℕ) :
    select (isClass t c) (packed L t) (broadcast S16x512 0#32) (at16 y l) = BitVec.ofNat 32 (packOf (slabPixel L y l) (t (at16 y l)) c) := by
  show Scalar.select (isClass t c (at16 y l)) (Scalar.select (BitVec.ofBool (decide (picked L t (at16 y l) < top L (at16 y l)))) 65537#32 1#32) 0#32 = _
  rw [select_isClass, picked_apply, top_apply]
  unfold packOf isOf missOf Scalar.select
  by_cases h : t (at16 y l) = BitVec.ofNat 32 c
  · by_cases h2 : kpick (slabPixel L y l) (t (at16 y l)) < ktop (slabPixel L y l)
    · simp only [if_pos h, decide_eq_true h2, if_pos (And.intro h h2)]
      rfl
    · simp only [if_pos h, decide_eq_false h2, if_neg (fun hh : _ ∧ _ => h2 hh.2)]
      rfl
  · simp only [if_neg h, if_neg (fun hh : _ ∧ _ => h hh.1)]

/-- A class's row of floats after a slab, cell by cell. -/
theorem rowFloats_apply (c : ℕ) (p : Vec Ideal S1x8x128 .f32) {a b : ℕ} (ha : a < 8) (hb : b < 128) :
    rowFloats L t c p (at8 a b) = (p (at8 a b) : EReal)
      + ∑ h ∈ range 2, ∑ q ∈ range 4, ceOf (slabPixel L (8 * h + a) (128 * q + b)) (t (at16 (8 * h + a) (128 * q + b))) c := by
  unfold rowFloats
  rw [plane_row]
  show (shapeCast S8x128 p _ (in8 a b) : EReal) + foldFloats (F := Ideal) _ (in8 a b) = _
  rw [row_plane, foldFloats_apply _ ha hb]
  refine congrArg (fun s => (p (at8 a b) : EReal) + s) (sum_congr rfl fun h _ => sum_congr rfl fun q _ => ?_)
  show Scalar.select (isClass t c (at16 (8 * h + a) (128 * q + b))) (crossEnt L t (at16 (8 * h + a) (128 * q + b))) (Scalar.ofBits .f32 0x00000000#32 : Ideal .f32) = _
  rw [select_isClass, crossEnt_apply, zero_f32]
  rfl

/-- A class's row of words after a slab, cell by cell. -/
theorem rowWords_apply (c : ℕ) (p : Vec Ideal S1x8x128 .i32) {a b n : ℕ} (hp : p (at8 a b) = BitVec.ofNat 32 n) (ha : a < 8) (hb : b < 128) :
    rowWords L t c p (at8 a b) = BitVec.ofNat 32 (n
      + ∑ h ∈ range 2, ∑ q ∈ range 4, packOf (slabPixel L (8 * h + a) (128 * q + b)) (t (at16 (8 * h + a) (128 * q + b))) c) := by
  unfold rowWords
  rw [plane_row]
  show (shapeCast S8x128 p _ (in8 a b) : BitVec 32) + foldWords _ (in8 a b) = _
  rw [row_plane, foldWords_apply _ (fun y l => packOf (slabPixel L y l) (t (at16 y l)) c) (fun y l => packed_apply L t c y l) ha hb, hp, ← BitVec.ofNat_add]

end Cert.KernelIdeal.Loss

end
-- ==== Proof.Grid.lean ====
/- The kernel's 64 points over the extended reals: a point's blocks read off the arguments, each class's scratch cells after
   each point as sums over the pixels met, and the last point's result as the loss of every pixel. -/
module

public import proofs.«01_k».proof.Proof.Lanes

@[expose] public section

noncomputable section

open Idealize.ShloMosaic Idealize.ShloMosaic.TcCoe Idealize.SL.Sem

namespace Cert.KernelIdeal.Loss

open Cert.KernelIdeal Cert.KernelIdeal.Gen Cert.Loss Finset

variable (m : (ℓ : Loc nD τ sig) → Buf (Elt Ideal) ℓ) (c : Dev nD)

/-- The logits a core is given. -/
abbrev argX : FVec Ideal ⟨4, ![8, 19, 512, 512]⟩ .f32 := m ((c : Thread nD τ).loc main_arg0)

/-- The targets a core is given. -/
abbrev argT : IVec ⟨3, ![8, 512, 512]⟩ 32 := m ((c : Thread nD τ).loc main_arg1)

/-- The block of logits of point `t`. -/
theorem index0 : ∀ t : Fin cfg0.N, win0_0.index t 0 = t.val / 8 ∧ win0_0.index t 1 = 0 ∧ win0_0.index t 2 = t.val % 8 ∧ win0_0.index t 3 = 0 :=
  (by decide +kernel : ∀ t : Fin grid0.N, win0_0.index t 0 = t.val / 8 ∧ win0_0.index t 1 = 0 ∧ win0_0.index t 2 = t.val % 8 ∧ win0_0.index t 3 = 0)

/-- The block of targets of point `t`. -/
theorem index1 : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)

/-- A slab row's index. -/
def in16 (y l : ℕ) : S1x1x16x512.Idx := fun a => match a with
  | ⟨0, _⟩ => ⟨0, Nat.one_pos⟩
  | ⟨1, _⟩ => ⟨0, Nat.one_pos⟩
  | ⟨2, _⟩ => ⟨y % 16, Nat.mod_lt _ (by decide)⟩
  | ⟨3, _⟩ => ⟨l % 512, Nat.mod_lt _ (by decide)⟩

/-- A slab row's index among the targets. -/
def in16t (y l : ℕ) : S1x16x512.Idx := fun a => match a with
  | ⟨0, _⟩ => ⟨0, Nat.one_pos⟩
  | ⟨1, _⟩ => ⟨y % 16, Nat.mod_lt _ (by decide)⟩
  | ⟨2, _⟩ => ⟨l % 512, Nat.mod_lt _ (by decide)⟩

/-- A slab's pixel's logits are the argument's. -/
theorem block_logits (t : Fin cfg0.N) {s y l : ℕ} (hs : s < 4) (hy : y < 16) :
    slabPixel (slabLogits (iblk m c 0 t) s) y l = logits (argX m c) (t.val / 8) (64 * (t.val % 8) + 16 * s + y) l := by
  funext cl
  unfold slabPixel plane logits
  rw [shapeCast_apply _ _ (at16 y l) (in16 y l) (by
    rewrite [Shape.rowMajor_val_four, Shape.rowMajor_val_two]
    show ((0 * 1 + 0) * 16 + y % 16) * 512 + l % 512 = y % 16 * 512 + l % 512
    omega)]
  unfold slabLogits iblk
  rw [View.read_apply]
  show V m c main_arg0 _ = _
  rw [V_main_arg0]
  refine congrArg (argX m c) (funext fun a => Fin.ext ?_)
  have hN : t.val < 64 := lt_of_lt_of_eq t.isLt (show cfg0.N = 64 from N_0)
  obtain ⟨h0, h1, h2, h3⟩ := index0 t
  match a with
  | ⟨0, _⟩ => show win0_0.index t 0 * 1 + 1 * (0 + 1 * 0) = t.val / 8 % 8; rw [h0]; omega
  | ⟨1, _⟩ => show win0_0.index t 1 * 19 + 1 * (cl % 19 + 1 * 0) = cl % 19; rw [h1]; omega
  | ⟨2, _⟩ => show win0_0.index t 2 * 64 + 1 * (16 * (s % 4) + 1 * (y % 16)) = (64 * (t.val % 8) + 16 * s + y) % 512; rw [h2]; omega
  | ⟨3, _⟩ => show win0_0.index t 3 * 512 + 1 * (0 + 1 * (l % 512)) = l % 512; rw [h3]; omega

/-- A slab's pixel's target is the argument's. -/
theorem block_target (t : Fin cfg0.N) {s y l : ℕ} (hs : s < 4) (hy : y < 16) :
    slabTargets (F := Ideal) (iblk m c 1 t) s (at16 y l) = target (argT m c) (t.val / 8) (64 * (t.val % 8) + 16 * s + y) l := by
  unfold slabTargets tgt target
  rw [shapeCast_apply _ _ (at16 y l) (in16t y l) (by
    rewrite [Shape.rowMajor_val_three, Shape.rowMajor_val_two]
    show (0 * 16 + y % 16) * 512 + l % 512 = y % 16 * 512 + l % 512
    omega)]
  unfold iblk
  rw [View.read_apply]
  show V m c main_arg1 _ = _
  rw [V_main_arg1]
  refine congrArg (argT m c) (funext fun a => Fin.ext ?_)
  have hN : t.val < 64 := lt_of_lt_of_eq t.isLt (show cfg0.N = 64 from N_0)
  obtain ⟨h0, h1, h2⟩ := index1 t
  match a with
  | ⟨0, _⟩ => show win0_1.index t 0 * 1 + 1 * (0 + 1 * 0) = t.val / 8 % 8; rw [h0]; omega
  | ⟨1, _⟩ => show win0_1.index t 1 * 64 + 1 * (16 * (s % 4) + 1 * (y % 16)) = (64 * (t.val % 8) + 16 * s + y) % 512; rw [h1]; omega
  | ⟨2, _⟩ => show win0_1.index t 2 * 512 + 1 * (0 + 1 * (l % 512)) = l % 512; rw [h2]; omega

/-- What class `cl` packs of a pixel. -/
def packG (cl i y l : ℕ) : ℕ := packOf (logits (argX m c) i y l) (target (argT m c) i y l) cl

/-- What class `cl` sums of a pixel. -/
def ceG (cl i y l : ℕ) : EReal := ceOf (logits (argX m c) i y l) (target (argT m c) i y l) cl

/-- A slab's part of a class's cell, off the point's blocks. -/
theorem slab_ce (t : Fin cfg0.N) (cl : ℕ) {s a b : ℕ} (hs : s < 4) (ha : a < 8) :
    slabCell (ceG m c cl) t.val s a b = ∑ h ∈ range 2, ∑ q ∈ range 4, ceOf (slabPixel (slabLogits (iblk m c 0 t) s) (8 * h + a) (128 * q + b))
      (slabTargets (F := Ideal) (iblk m c 1 t) s (at16 (8 * h + a) (128 * q + b))) cl := by
  unfold slabCell
  refine sum_congr rfl fun h hh => sum_congr rfl fun q _ => ?_
  have hh' := mem_range.mp hh
  rw [block_logits m c t hs (by omega), block_target m c t hs (by omega)]
  rfl

/-- A slab's part of a class's cell, off the point's blocks. -/
theorem slab_pack (t : Fin cfg0.N) (cl : ℕ) {s a b : ℕ} (hs : s < 4) (ha : a < 8) :
    slabCell (packG m c cl) t.val s a b = ∑ h ∈ range 2, ∑ q ∈ range 4, packOf (slabPixel (slabLogits (iblk m c 0 t) s) (8 * h + a) (128 * q + b))
      (slabTargets (F := Ideal) (iblk m c 1 t) s (at16 (8 * h + a) (128 * q + b))) cl := by
  unfold slabCell
  refine sum_congr rfl fun h hh => sum_congr rfl fun q _ => ?_
  have hh' := mem_range.mp hh
  rw [block_logits m c t hs (by omega), block_target m c t hs (by omega)]
  rfl

/-- A class's cells of floats after a point's slabs. -/
theorem slabs_floats (t : Fin cfg0.N) (cl : ℕ) (p : Vec Ideal S1x8x128 .f32) {a b : ℕ} (ha : a < 8) (hb : b < 128) :
    ∀ n, n ≤ 4 → slabs (floatStep (iblk m c 0 t) (iblk m c 1 t)) cl p n (at8 a b)
      = (p (at8 a b) : EReal) + ∑ s ∈ range n, slabCell (ceG m c cl) t.val s a b
  | 0, _ => by rw [sum_range_zero, add_zero]; rfl
  | n + 1, hn => by
    show floatStep _ _ n cl _ (at8 a b) = _
    rw [floatStep, rowFloats_apply _ _ _ _ ha hb, slabs_floats t cl p ha hb n (by omega), sum_range_succ (fun s => slabCell (ceG m c cl) t.val s a b), ← add_assoc, slab_ce m c t cl (by omega) ha]

/-- A class's cells of words after a point's slabs. -/
theorem slabs_words (t : Fin cfg0.N) (cl : ℕ) (p : Vec Ideal S1x8x128 .i32) {a b k : ℕ} (hp : p (at8 a b) = BitVec.ofNat 32 k) (ha : a < 8) (hb : b < 128) :
    ∀ n, n ≤ 4 → slabs (wordStep (iblk m c 0 t) (iblk m c 1 t)) cl p n (at8 a b)
      = BitVec.ofNat 32 (k + ∑ s ∈ range n, slabCell (packG m c cl) t.val s a b)
  | 0, _ => by rw [sum_range_zero, add_zero]; exact hp
  | n + 1, hn => by
    show wordStep _ _ n cl _ (at8 a b) = _
    rw [wordStep, rowWords_apply _ _ _ _ (slabs_words t cl p hp ha hb n (by omega)) ha hb, sum_range_succ (fun s => slabCell (packG m c cl) t.val s a b), ← add_assoc, slab_pack m c t cl (by omega) ha]

/-- The zero fill of the words. -/
theorem fill_words (cl a b : ℕ) : rowOf (F := Ideal) (e := .i32) k0_pay58 cl (at8 a b) = BitVec.ofNat 32 0 := by
  unfold rowOf k0_pay58
  rw [shapeCast_self]
  rfl

/-- The zero fill of the floats. -/
theorem fill_floats (cl a b : ℕ) : rowOf (F := Ideal) (e := .f32) (k0_pay59 (F := Ideal)) cl (at8 a b) = (0 : EReal) := by
  unfold rowOf k0_pay59
  rw [shapeCast_self]
  exact Ideal.ofBits_zero_f32

/-- Every class's cells after `n` points. -/
def Held (n : ℕ) (A : Vec Ideal S19x8x128 .i32) (B : Vec Ideal S19x8x128 .f32) : Prop :=
  ∀ cl a b, cl < 19 → a < 8 → b < 128 → rowOf A cl (at8 a b) = BitVec.ofNat 32 (cell (packG m c cl) a b n)
    ∧ rowOf B cl (at8 a b) = cell (ceG m c cl) a b n

/-- A point's slabs take every class's cells one point further. -/
theorem next (t : Fin cfg0.N) {A : Vec Ideal S19x8x128 .i32} {B : Vec Ideal S19x8x128 .f32} (hAB : Held m c t.val A B)
    {cl a b : ℕ} (hcl : cl < 19) (ha : a < 8) (hb : b < 128) :
    slabs (wordStep (iblk m c 0 t) (iblk m c 1 t)) cl (rowOf A cl) 4 (at8 a b) = BitVec.ofNat 32 (cell (packG m c cl) a b (t.val + 1))
    ∧ slabs (floatStep (iblk m c 0 t) (iblk m c 1 t)) cl (rowOf B cl) 4 (at8 a b) = cell (ceG m c cl) a b (t.val + 1) := by
  obtain ⟨hw, hf⟩ := hAB cl a b hcl ha hb
  rw [cell_succ (packG m c cl), cell_succ (ceG m c cl), slabs_words m c t cl _ hw ha hb 4 le_rfl, slabs_floats m c t cl _ ha hb 4 le_rfl, hf]
  exact ⟨rfl, rfl⟩

/-- Before the first point every cell is zero. -/
theorem held_zero : Held m c 0 (k0_pay58 : Vec Ideal S19x8x128 .i32) (k0_pay59 (F := Ideal)) :=
  fun cl a b _ _ _ => ⟨fill_words cl a b, fill_floats cl a b⟩

/-- The first point's cells. -/
theorem held_A (t : Fin cfg0.N) (h0 : t.val % 64 = 0) (h1 : ¬ t.val % 64 = 63) (ht : t.val = 0) :
    Held m c (t.val + 1) (outsAt0 m c t.val t.isLt).2.1 (outsAt0 m c t.val t.isLt).2.2 := by
  rw [outsAt0_A m c t h0 h1]
  intro cl a b hcl ha hb
  dsimp only
  rw [after_words_A c _ _ _ _ _ _ _ _ _ _ _ _ _ _ _ hcl, after_floats_A c _ _ _ _ _ _ _ _ _ _ _ _ _ _ _ hcl]
  exact next m c t (ht ▸ held_zero m c) hcl ha hb

/-- A middle point's cells. -/
theorem held_B (t : Fin cfg0.N) (h0 : ¬ t.val % 64 = 0) (h1 : ¬ t.val % 64 = 63) (hp : t.val - 1 < cfg0.N)
    (h : Held m c t.val (outsAt0 m c (t.val - 1) hp).2.1 (outsAt0 m c (t.val - 1) hp).2.2) :
    Held m c (t.val + 1) (outsAt0 m c t.val t.isLt).2.1 (outsAt0 m c t.val t.isLt).2.2 := by
  rw [outsAt0_B m c t h0 h1]
  intro cl a b hcl ha hb
  dsimp only
  rw [after_words_B c _ _ _ _ _ _ _ _ _ _ _ _ _ _ _ _ _ hcl, after_floats_B c _ _ _ _ _ _ _ _ _ _ _ _ _ _ _ _ _ hcl]
  exact next m c t h hcl ha hb

/-- Before the last point the scratch holds the sums over the points so far. -/
theorem held : ∀ (n : ℕ) (hn : n < cfg0.N), n < 63 → Held m c (n + 1) (outsAt0 m c n hn).2.1 (outsAt0 m c n hn).2.2
  | 0, hn, _ => held_A m c ⟨0, hn⟩ rfl (by show ¬ 0 % 64 = 63; omega) rfl
  | n + 1, hn, hl => held_B m c ⟨n + 1, hn⟩ (by show ¬ (n + 1) % 64 = 0; omega) (by show ¬ (n + 1) % 64 = 63; omega)
      (Nat.lt_of_succ_lt hn) (held n (Nat.lt_of_succ_lt hn) (by omega))

/-- Each class's words and floats that the last point totals. -/
theorem result_rows (t : Fin cfg0.N) (ht : t.val = 63) : ∃ (W : ℕ → Vec Ideal S1x8x128 .i32) (A : ℕ → Vec Ideal S1x8x128 .f32),
    (outsAt0 m c t.val t.isLt).1 = broadcast S1x1 (Scalar.divf (F := Ideal) (φ := .f32) (classTotal (F := Ideal) W A 19) (Scalar.ofBits .f32 0x4A000000#32))
    ∧ ∀ cl a b, cl < 19 → a < 8 → b < 128 → W cl (at8 a b) = BitVec.ofNat 32 (cell (packG m c cl) a b 64)
        ∧ A cl (at8 a b) = cell (ceG m c cl) a b 64 := by
  have hp : t.val - 1 < cfg0.N := lt_of_le_of_lt (Nat.sub_le _ _) t.isLt
  have h : Held m c t.val (outsAt0 m c (t.val - 1) hp).2.1 (outsAt0 m c (t.val - 1) hp).2.2 := by
    have := held m c (t.val - 1) hp (by omega)
    rwa [show t.val - 1 + 1 = t.val by omega] at this
  refine ⟨fun k => slabs (wordStep (iblk m c 0 t) (iblk m c 1 t)) k (rowOf (outsAt0 m c (t.val - 1) hp).2.1 k) 4,
    fun k => slabs (floatStep (iblk m c 0 t) (iblk m c 1 t)) k (rowOf (outsAt0 m c (t.val - 1) hp).2.2 k) 4, ?_, fun cl a b hcl ha hb => ?_⟩
  · rw [outsAt0_C m c t (by omega) (by omega)]
    dsimp only
    rw [after_result]
  · have := next m c t h hcl ha hb
    rwa [show t.val + 1 = 64 by omega] at this

end Cert.KernelIdeal.Loss

end
-- ==== Proof.Total.lean ====
/- The last point's result over the extended reals: each class's packed counts unpacked and summed, weighted and totalled, are
   the loss of every pixel. -/
module

public import proofs.«01_k».proof.Proof.Grid

@[expose] public section

noncomputable section

open Idealize.ShloMosaic Idealize.ShloMosaic.TcCoe Idealize.SL.Sem

namespace Cert.KernelIdeal.Loss

open Cert.KernelIdeal Cert.KernelIdeal.Gen Cert.Loss Finset

/-- The sum over a [1,8,128] array is the sum over its cells. -/
theorem sum_at8 (f : S1x8x128.Idx → EReal) : ∑ i : S1x8x128.Idx, f i = ∑ a ∈ range 8, ∑ b ∈ range 128, f (at8 a b) := by
  rw [← sum_product' (range 8) (range 128) fun a b => f (at8 a b)]
  refine sum_bij' (fun i _ => ((i 1).val, (i 2).val)) (fun p _ => at8 p.1 p.2) ?_ ?_ ?_ ?_ ?_
  · intro i _
    exact mem_product.mpr ⟨mem_range.mpr (i 1).isLt, mem_range.mpr (i 2).isLt⟩
  · intro p _
    exact mem_univ _
  · intro i _
    funext k
    match k with
    | ⟨0, _⟩ => exact Fin.ext (Nat.lt_one_iff.mp (i 0).isLt).symm
    | ⟨1, _⟩ => exact Fin.ext (Nat.mod_eq_of_lt (i 1).isLt)
    | ⟨2, _⟩ => exact Fin.ext (Nat.mod_eq_of_lt (i 2).isLt)
  · intro p hp
    obtain ⟨h1, h2⟩ := mem_product.mp hp
    exact Prod.ext (Nat.mod_eq_of_lt (mem_range.mp h1)) (Nat.mod_eq_of_lt (mem_range.mp h2))
  · intro i _
    refine congrArg f (funext fun k => ?_)
    match k with
    | ⟨0, _⟩ => exact Fin.ext (Nat.lt_one_iff.mp (i 0).isLt)
    | ⟨1, _⟩ => exact Fin.ext (Nat.mod_eq_of_lt (i 1).isLt).symm
    | ⟨2, _⟩ => exact Fin.ext (Nat.mod_eq_of_lt (i 2).isLt).symm

/-- The kernel's sum of a plane is the sum of its cells. -/
theorem planeSum_apply (A : FVec Ideal S8x128 .f32) : planeSum (F := Ideal) A = ∑ a ∈ range 8, ∑ b ∈ range 128, (A (in8 a b) : EReal) := by
  refine (Ideal.multiReduction_add_total (φ := .f32) (shapeCast S1x8x128 A shapeCasts_S8x128_S1x8x128) 0x00000000#32
    reduces_S1x8x128_S1 (by decide) (.inl rfl) rfl _).trans ?_
  exact (sum_at8 _).trans (sum_congr rfl fun a _ => sum_congr rfl fun b _ => plane_row A _ a b)

/-- A cell of packed counts is the count plus 65536 times the missed. -/
theorem cell_pack (G H : ℕ → ℕ → ℕ → ℕ) (a b n : ℕ) :
    cell (fun i y l => G i y l + 65536 * H i y l) a b n = cell G a b n + 65536 * cell H a b n := by
  simp only [cell, slabCell, sum_add_distrib, mul_sum]

/-- A cell of zeros and ones is at most 32 a point. -/
theorem cell_le (G : ℕ → ℕ → ℕ → ℕ) (hG : ∀ i y l, G i y l ≤ 1) (a b : ℕ) : ∀ n, cell G a b n ≤ 32 * n
  | 0 => le_of_eq (by rw [cell, sum_range_zero, mul_zero])
  | n + 1 => by
    rw [cell_succ]
    have h : ∑ s ∈ range 4, slabCell G n s a b ≤ ∑ s ∈ range 4, ∑ h ∈ range 2, ∑ q ∈ range 4, 1 :=
      sum_le_sum fun s _ => sum_le_sum fun h _ => sum_le_sum fun q _ => hG _ _ _
    have h2 : ∑ s ∈ range 4, ∑ h ∈ range 2, ∑ q ∈ range 4, 1 = 32 := by decide
    have := cell_le G hG a b n
    omega

/-- A packed word's nonnegative bits. -/
theorem toInt_small (w : BitVec 32) (h : w.toNat < 2147483648) : w.toInt = (w.toNat : ℤ) := by
  rw [BitVec.toInt_eq_toNat_cond, if_pos (by omega)]

/-- The low half of a word, as a number. -/
theorem low_half (w : BitVec 32) : (w &&& 65535#32).toInt = ((w.toNat % 65536 : ℕ) : ℤ) := by
  have h : (w &&& 65535#32).toNat = w.toNat % 65536 := by
    rw [BitVec.toNat_and]
    exact Nat.and_two_pow_sub_one_eq_mod _ 16
  rw [toInt_small _ (by rw [h]; omega), h]

/-- The high half of a nonnegative word, as a number. -/
theorem high_half (w : BitVec 32) (h : w.toNat < 2147483648) :
    (IntOp.shrsi .vector w 16#32 &&& 65535#32).toInt = ((w.toNat / 65536 : ℕ) : ℤ) := by
  have hs : IntOp.shrsi .vector w 16#32 = w.sshiftRight 16 := rfl
  rw [low_half, hs, BitVec.sshiftRight_eq_of_msb_false (BitVec.msb_eq_false_iff_two_mul_lt.mpr (by omega)), BitVec.toNat_ushiftRight, Nat.shiftRight_eq_div_pow,
    Nat.mod_eq_of_lt (by omega)]

/-- A count, as the ideal float. -/
theorem coe_count (n : ℕ) : (((n : ℤ) : ℝ) : EReal) = ((n : ℝ) : EReal) := by rw [Int.cast_natCast]

/-- A double sum of counts as ideal floats. -/
theorem sum_counts (N : ℕ → ℕ → ℕ) : ∑ a ∈ range 8, ∑ b ∈ range 128, ((N a b : ℝ) : EReal) = (((∑ a ∈ range 8, ∑ b ∈ range 128, N a b : ℕ) : ℝ) : EReal) := by
  rw [Nat.cast_sum, coe_sum]
  refine sum_congr rfl fun a _ => ?_
  rw [Nat.cast_sum, coe_sum]

variable {w : Vec Ideal S1x8x128 .i32} {N M : ℕ → ℕ → ℕ}

/-- A class's count unpacks to the sum of its cells' counts. -/
theorem classCount_apply (hw : ∀ a b, a < 8 → b < 128 → w (at8 a b) = BitVec.ofNat 32 (N a b + 65536 * M a b))
    (hN : ∀ a b, N a b < 65536) (hM : ∀ a b, M a b < 16384) :
    classCount (F := Ideal) w = (((∑ a ∈ range 8, ∑ b ∈ range 128, N a b : ℕ) : ℝ) : EReal) := by
  unfold classCount
  rw [planeSum_apply, ← sum_counts]
  refine sum_congr rfl fun a ha => sum_congr rfl fun b hb => ?_
  show ((((shapeCast S8x128 w _ (in8 a b) : BitVec 32) &&& 65535#32).toInt : ℝ) : EReal) = _
  rw [row_plane, hw a b (mem_range.mp ha) (mem_range.mp hb), low_half, BitVec.toNat_ofNat, coe_count]
  have := hN a b
  have := hM a b
  rw [show (N a b + 65536 * M a b) % 2 ^ 32 % 65536 = N a b by omega]

/-- A class's missed count likewise. -/
theorem classMissed_apply (hw : ∀ a b, a < 8 → b < 128 → w (at8 a b) = BitVec.ofNat 32 (N a b + 65536 * M a b))
    (hN : ∀ a b, N a b < 65536) (hM : ∀ a b, M a b < 16384) :
    classMissed (F := Ideal) w = (((∑ a ∈ range 8, ∑ b ∈ range 128, M a b : ℕ) : ℝ) : EReal) := by
  unfold classMissed
  rw [planeSum_apply, ← sum_counts]
  refine sum_congr rfl fun a ha => sum_congr rfl fun b hb => ?_
  have := hN a b
  have := hM a b
  show (((IntOp.shrsi .vector (shapeCast S8x128 w _ (in8 a b) : BitVec 32) 16#32 &&& 65535#32).toInt : ℝ) : EReal) = _
  rw [row_plane, hw a b (mem_range.mp ha) (mem_range.mp hb), high_half _ (by rw [BitVec.toNat_ofNat]; omega), BitVec.toNat_ofNat, coe_count]
  rw [show (N a b + 65536 * M a b) % 2 ^ 32 / 65536 = M a b by omega]

/-- A class's loss is the sum of its cells. -/
theorem classLoss_apply (A : Vec Ideal S1x8x128 .f32) : classLoss (F := Ideal) A = ∑ a ∈ range 8, ∑ b ∈ range 128, (A (at8 a b) : EReal) := by
  unfold classLoss
  rw [planeSum_apply]
  exact sum_congr rfl fun a _ => sum_congr rfl fun b _ => row_plane A _ a b

/-- A count, or one, as the ideal float. -/
theorem orOne_count (n : ℕ) : orOne (F := Ideal) (((n : ℝ) : EReal)) = orOneN n := by
  have hz : (Scalar.ofBits .f32 0x00000000#32 : Ideal .f32) = (0 : EReal) := Ideal.ofBits_zero_f32
  have h1 : (Scalar.ofBits .f32 0x3F800000#32 : Ideal .f32) = (1 : EReal) := by
    show Ideal.ieee 8 23 0x3F800000#32 = 1
    simp [Ideal.ieee, -EReal.coe_mul]
    norm_num
  unfold orOne
  rw [hz, h1]
  show (if BitVec.ofBool (decide ((0 : EReal) < ((n : ℝ) : EReal))) = 1#1 then _ else _) = _
  unfold orOneN
  have e : ((0 : EReal) < ((n : ℝ) : EReal)) ↔ 0 < n := by
    rw [← EReal.coe_zero, EReal.coe_lt_coe_iff, Nat.cast_pos]
  by_cases h : 0 < n
  · rw [if_pos h, if_pos (by rw [decide_eq_true (e.mpr h)]; rfl)]
  · rw [if_neg h, if_neg (by rw [decide_eq_false (fun k => h (e.mp k))]; decide)]

/-- A class's term off its counts and its loss. -/
theorem classTerm_apply {w : Vec Ideal S1x8x128 .i32} {A : Vec Ideal S1x8x128 .f32} {n k : ℕ} {l : EReal}
    (hC : classCount (F := Ideal) w = ((n : ℝ) : EReal)) (hK : classMissed (F := Ideal) w = ((k : ℝ) : EReal)) (hA : classLoss (F := Ideal) A = l) :
    classTerm (F := Ideal) w A = weightOf n k * l := by
  unfold classTerm weightOf
  rw [hA, hC, hK, orOne_count, orOne_count]
  rfl

variable (m : (ℓ : Loc nD τ sig) → Buf (Elt Ideal) ℓ) (c : Dev nD)

/-- The kernel's total over classes whose rows hold the sums over every pixel. -/
theorem total_apply {W : ℕ → Vec Ideal S1x8x128 .i32} {A : ℕ → Vec Ideal S1x8x128 .f32}
    (h : ∀ cl a b, cl < 19 → a < 8 → b < 128 → W cl (at8 a b) = BitVec.ofNat 32 (cell (packG m c cl) a b 64) ∧ A cl (at8 a b) = cell (ceG m c cl) a b 64) :
    ∀ n, n ≤ 19 → classTotal (F := Ideal) W A n = ∑ k ∈ range n, weightOf (countOf (argT m c) k) (missedOf (argX m c) (argT m c) k) * lossOf (argX m c) (argT m c) k
  | 0, _ => by rw [sum_range_zero]; exact Ideal.ofBits_zero_f32
  | n + 1, hn => by
    have hle' : ∀ (G : ℕ → ℕ → ℕ → ℕ), (∀ i y l, G i y l ≤ 1) → ∀ a b, cell G a b 64 < 16384 := fun G hG a b =>
      lt_of_le_of_lt (cell_le G hG a b 64) (by omega)
    have hN := hle' (fun i y l => isOf (target (argT m c) i y l) n) fun i y l => by unfold isOf; split <;> omega
    have hM := hle' (fun i y l => missOf (logits (argX m c) i y l) (target (argT m c) i y l) n) fun i y l => by unfold missOf; split <;> omega
    have hw : ∀ a b, a < 8 → b < 128 → W n (at8 a b) = BitVec.ofNat 32 (cell (fun i y l => isOf (target (argT m c) i y l) n) a b 64
        + 65536 * cell (fun i y l => missOf (logits (argX m c) i y l) (target (argT m c) i y l) n) a b 64) := fun a b ha hb => by
      rw [(h n a b (by omega) ha hb).1, ← cell_pack]
      rfl
    have hN' := fun a b => lt_trans (hN a b) (show 16384 < 65536 by decide)
    have hA : classLoss (F := Ideal) (A n) = lossOf (argX m c) (argT m c) n := by
      rw [classLoss_apply, lossOf, ← sum_cells]
      refine sum_congr rfl fun a ha => sum_congr rfl fun b hb => ?_
      exact (h n a b (by omega) (mem_range.mp ha) (mem_range.mp hb)).2
    have hC := classCount_apply hw hN' hM
    have hK := classMissed_apply hw hN' hM
    rw [sum_cells] at hC hK
    have hT : classTerm (F := Ideal) (W n) (A n) = weightOf (countOf (argT m c) n) (missedOf (argX m c) (argT m c) n) * lossOf (argX m c) (argT m c) n := by
      exact classTerm_apply hC hK hA
    rw [sum_range_succ, ← total_apply h n (by omega), ← hT]
    rfl

/-- The last point's result is the loss. -/
theorem last_result (t : Fin cfg0.N) (ht : t.val = 63) : (outsAt0 m c t.val t.isLt).1 = fun _ => lossValue (argX m c) (argT m c) := by
  obtain ⟨W, A, h, hr⟩ := result_rows m c t ht
  rw [h, total_apply m c hr 19 le_rfl]
  rfl

end Cert.KernelIdeal.Loss

end
-- ==== Proof.KernelRun.lean ====
/- The idealized kernel's run: the result array at the last point's block, the reshape after it, the arguments unchanged. -/
module

public import proofs.«01_k».proof.Proof.Total

@[expose] public section

noncomputable section

open Idealize.ShloMosaic Idealize.ShloMosaic.TcCoe Idealize.SL.Sem

namespace Cert.KernelIdeal.Loss

open Cert.KernelIdeal Cert.KernelIdeal.Gen Cert.Loss Finset

variable (m : (ℓ : Loc nD τ sig) → Buf (Elt Ideal) ℓ) (ρ : Dev nD → PrngReg)

/-- The result array: the loss. -/
abbrev lossArr (c : Dev nD) : Buf (Elt Ideal) ((c : Thread nD τ).loc main_v0) := fun _ => lossValue (argX m c) (argT m c)

/-- The last point. -/
abbrev lastPoint : Fin cfg0.N := ⟨63, by rw [show cfg0.N = 64 from N_0]; decide⟩

/-- The one write-back writes the loss. -/
theorem flushed_eq (c : Dev nD) (t : Fin cfg0.N) (hf : (cfg0.win 2).flush t = true) :
    (dats m 0 c).flushed 2 t = ((cfg0.win 2).blk t).view.read (Elt Ideal) (lossArr m c) := by
  have h3 : t.val = 63 := by
    have := (flush0_2 t).mp hf
    have : t.val < 64 := lt_of_lt_of_eq t.isLt (show cfg0.N = 64 from N_0)
    omega
  obtain rfl : t = lastPoint := Fin.ext h3
  show (cfg0.win 2).cut (grid0.coords lastPoint) ((dats m 0 c).after 2 lastPoint) = _
  rw [after0_2, last_result m c lastPoint rfl]
  have hz' : (fun a => win0_2.index lastPoint a * main_v0.ty.shape.size a) = fun _ => 0 := funext fun a => by fin_cases a <;> decide
  exact (Memref.read_access_unit_zero (Elt Ideal) main_v0 hz' (fun a => by rw [congrFun hz' a]; simp) (lossArr m c)).symm

/-- The result array ends holding the loss. -/
theorem final_o (c : Dev nD) : (dats m 0 c).arrAt 2 cfg0.N = lossArr m c :=
  (dats m 0 c).arrAt_eq_of_cover 2 (lossArr m c) (flushed_eq m c) fun i =>
    ⟨lastPoint, (flush0_2 lastPoint).mpr rfl, by
      show i ∈ ((View.whole main_v0).slice (win0_2.rect lastPoint)).set
      rw [View.set_slice_whole, Rect.mem_set_unit]
      intro a
      have h0 : (i 0 : Nat) < 1 := (i 0).isLt
      have h1 : (i 1 : Nat) < 1 := (i 1).isLt
      match a with
      | ⟨0, _⟩ => show win0_2.index lastPoint 0 * win0_2.size 0 ≤ (i 0 : Nat) ∧ (i 0 : Nat) < win0_2.index lastPoint 0 * win0_2.size 0 + win0_2.xsize (grid0.coords lastPoint) 0
                  rw [show win0_2.index lastPoint 0 * win0_2.size 0 = 0 from by decide +kernel, show win0_2.xsize (grid0.coords lastPoint) 0 = 1 from by decide +kernel]; omega
      | ⟨1, _⟩ => show win0_2.index lastPoint 1 * win0_2.size 1 ≤ (i 1 : Nat) ∧ (i 1 : Nat) < win0_2.index lastPoint 1 * win0_2.size 1 + win0_2.xsize (grid0.coords lastPoint) 1
                  rw [show win0_2.index lastPoint 1 * win0_2.size 1 = 0 from by decide +kernel, show win0_2.xsize (grid0.coords lastPoint) 1 = 1 from by decide +kernel]; omega⟩

/-- The windows' arrays are different buffers. -/
theorem arr_inj : Function.Injective (Pipeline.arrRef spec0) := by decide

/-- The reshape's result is the loss. -/
theorem tail_eq (c : Dev nD) : Pipeline.afterTail₀ cfgs (dats m) 0 (V0 m) [hostOps1] c main_v1 = fun _ => lossValue (argX m c) (argT m c) := by
  have h : Pipeline.withArrays (cfgs 0).spec c (V0 m c) (fun w => (dats m 0 c).arrAt w (cfgs 0).N) (Proc.devRef .tc main_v0) = lossArr m c :=
    (Pipeline.withArrays_arr spec0 arr_inj c (V0 m c) (fun w => (dats m 0 c).arrAt w cfg0.N) 2).trans (final_o m c)
  unfold Pipeline.afterTail₀
  show shapeCast S_ (Pipeline.withArrays (cfgs 0).spec c (V0 m c) (fun w => (dats m 0 c).arrAt w (cfgs 0).N) (Proc.devRef .tc main_v0)) shapeCasts_S1x1_S_ = _
  rw [h]
  rfl

/-- The run: the result at the loss of the arguments, the arguments unchanged. -/
theorem run : θ_run defs (onTc (τ := τ) (main (F := Ideal))) ⟨m, fun _ => 0, ρ⟩ fun r => ∀ c : Dev nD,
      r.2.mem ((c.tc : Thread nD τ).loc main_v1) = (fun _ => lossValue (argX m c) (argT m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Loss

end
-- ==== Proof.RefRun.lean ====
/- The reference's run: its @main as a list of host operations, and the value each execution ends with, written in stages —
   the predicted class, the count of each class, the missed pixels of each class, the weight of each class, the log-softmax, the
   loss of each pixel, the weighted mean. -/
module

public import proofs.«01_k».proof.Proof.Gen.ReferenceIdeal
public import Idealize.ShloMosaic.Lib.StableHlo.Run

@[expose] public section

noncomputable section

namespace Cert.ReferenceIdeal.Loss

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The class of each pixel's largest logit. -/
def predicted (x : FVec F S8x19x512x512 .f32) : IVec S8x512x512 32 := fun j =>
  (Host.argReduce reducer_argmax_f32_i32 x (iotaInDim S8x19x512x512 32 1) (constant S_ .f32 0xFF800000#32) (constantI S_ 32 0#32)
    reducesTo_S8x19x512x512_S8x512x512_d1 h_S_ j).2

/-- The targets in one row, never below zero. -/
def clipped (t : IVec S8x512x512 32) : IVec S2097152 32 :=
  maxsi (broadcastInDim S2097152 ![] bcast_S_S2097152 (id (constantI S_ 32 0#32))) (shapeCast S2097152 t shapeCasts_S8x512x512_S2097152)

/-- The class each pixel is counted at: its clipped target, negative ones wrapped. -/
def slot (t : IVec S8x512x512 32) : IVec S2097152x1 32 :=
  broadcastInDim S2097152x1 ![0] bcast_S2097152_S2097152x1_0
    (select (cmpi .slt (clipped t) (broadcastInDim S2097152 ![] bcast_S_S2097152 (constantI S_ 32 0#32)))
      (addi (clipped t) (broadcastInDim S2097152 ![] bcast_S_S2097152 (constantI S_ 32 19#32))) (clipped t))

/-- The pixels of each class. -/
def counts (t : IVec S8x512x512 32) : IVec S19 32 :=
  Host.scatter scatter_S19_S2097152x1_S2097152_n_0_0_1 IntOp.addi (broadcastInDim S19 ![] bcast_S_S19 (constantI S_ 32 0#32)) (slot t)
    (broadcastInDim S2097152 ![] bcast_S_S2097152 (constantI S_ 32 1#32))

/-- Each class's number of pixels as a float, one for a class with none. -/
def support (t : IVec S8x512x512 32) : FVec F S19 .f32 :=
  select (cmpi .sgt (counts t) (broadcastInDim S19 ![] bcast_S_S19 (constantI S_ 32 0#32))) (sitofp .f32 (counts t))
    (broadcastInDim S19 ![] bcast_S_S19 (constant S_ .f32 0x3F800000#32))

/-- The wrongly predicted pixels of each class. -/
def missed (x : FVec F S8x19x512x512 .f32) (t : IVec S8x512x512 32) : FVec F S19 .f32 :=
  Host.scatterAdd scatter_S19_S2097152x1_S2097152_n_0_0_1 (broadcastInDim S19 ![] bcast_S_S19 (constant S_ .f32 0x00000000#32)) (slot t)
    (uitofp .f32 (shapeCast S2097152 (cmpi .ne (predicted x) t) shapeCasts_S8x512x512_S2097152))

/-- Each class's weight. -/
def weight (x : FVec F S8x19x512x512 .f32) (t : IVec S8x512x512 32) : FVec F S19 .f32 :=
  Host.divf (select (cmpf .ogt (missed x t) (broadcastInDim S19 ![] bcast_S_S19 (constant S_ .f32 0x00000000#32))) (missed x t)
      (broadcastInDim S19 ![] bcast_S_S19 (constant S_ .f32 0x3F800000#32)))
    (addf (support t) (broadcastInDim S19 ![] bcast_S_S19 (constant S_ .f32 0x33D6BF95#32)))

/-- Each logit less its pixel's largest. -/
def shifted (x : FVec F S8x19x512x512 .f32) : FVec F S8x19x512x512 .f32 :=
  subf x (broadcastInDim S8x19x512x512 ![0, 1, 2, 3] bcast_S8x1x512x512_S8x19x512x512_0_1_2_3
    (broadcastInDim S8x1x512x512 ![0, 2, 3] bcast_S8x512x512_S8x1x512x512_0_2_3
      (maximumf (broadcastInDim S8x512x512 ![] bcast_S_S8x512x512 (constant S_ .f32 0xFF800000#32))
        (Host.reduce FloatOps.maximumf x (constant S_ .f32 0xFF800000#32) reducesTo_S8x19x512x512_S8x512x512_d1 h_S_))))

/-- The log-softmax over the classes. -/
def logSoftmax (x : FVec F S8x19x512x512 .f32) : FVec F S8x19x512x512 .f32 :=
  subf (shifted x) (broadcastInDim S8x19x512x512 ![0, 1, 2, 3] bcast_S8x1x512x512_S8x19x512x512_0_1_2_3
    (Host.log (broadcastInDim S8x1x512x512 ![0, 2, 3] bcast_S8x512x512_S8x1x512x512_0_2_3
      (Host.reduceAdd (Host.exp (shifted x)) (constant S_ .f32 0x00000000#32) reducesTo_S8x19x512x512_S8x512x512_d1 h_S_))))

/-- The targets as the class axis's index, negative ones wrapped. -/
def along (t : IVec S8x512x512 32) : IVec S8x1x512x512x1 32 :=
  shapeCast S8x1x512x512x1 (select (cmpi .slt (broadcastInDim S8x1x512x512 ![0, 2, 3] bcast_S8x512x512_S8x1x512x512_0_2_3 t)
        (broadcastInDim S8x1x512x512 ![] bcast_S_S8x1x512x512 (constantI S_ 32 0#32)))
      (addi (broadcastInDim S8x1x512x512 ![0, 2, 3] bcast_S8x512x512_S8x1x512x512_0_2_3 t)
        (broadcastInDim S8x1x512x512 ![] bcast_S_S8x1x512x512 (constantI S_ 32 19#32)))
      (broadcastInDim S8x1x512x512 ![0, 2, 3] bcast_S8x512x512_S8x1x512x512_0_2_3 t)) shapeCasts_S8x1x512x512_S8x1x512x512x1

/-- Where that index is a class. -/
def inRange (t : IVec S8x512x512 32) : IVec S8x1x512x512 1 :=
  Host.reduce IntOp.andi (andi (cmpi .sge (along t) (broadcastInDim S8x1x512x512x1 ![] bcast_S_S8x1x512x512x1 (constantI S_ 32 0#32)))
      (cmpi .sle (along t) (broadcastInDim S8x1x512x512x1 ![0, 1, 2, 3, 4] bcast_S1x1x1x1x1_S8x1x512x512x1_0_1_2_3_4
        (broadcastInDim S1x1x1x1x1 ![4] bcast_S1_S1x1x1x1x1_4 (constantI S1 32 18#32)))))
    (constantI S_ 1 1#1) reducesTo_S8x1x512x512x1_S8x1x512x512_d4 h_S_

/-- The log-softmax at each pixel's target. -/
def taken (x : FVec F S8x19x512x512 .f32) (t : IVec S8x512x512 32) : FVec F S8x1x512x512 .f32 :=
  select (inRange t) (Host.gather gather_S8x19x512x512_S8x1x512x512x1_S8x1x512x512_n_1_023_023_1_4_1111 (logSoftmax x) (along t))
    (broadcastInDim S8x1x512x512 ![] bcast_S_S8x1x512x512 (constant S_ .f32 0x7FC00000#32))

/-- Each pixel's cross entropy. -/
def loss (x : FVec F S8x19x512x512 .f32) (t : IVec S8x512x512 32) : FVec F S8x512x512 .f32 :=
  Host.negf (shapeCast S8x512x512 (taken x t) shapeCasts_S8x1x512x512_S8x512x512)

/-- The targets as the index of a weight, negative ones wrapped. -/
def weightAt (t : IVec S8x512x512 32) : IVec S8x512x512x1 32 :=
  broadcastInDim S8x512x512x1 ![0, 1, 2] bcast_S8x512x512_S8x512x512x1_0_1_2
    (select (cmpi .slt t (broadcastInDim S8x512x512 ![] bcast_S_S8x512x512 (constantI S_ 32 0#32)))
      (addi t (broadcastInDim S8x512x512 ![] bcast_S_S8x512x512 (constantI S_ 32 19#32))) t)

/-- The mean weighted loss. -/
def mean (x : FVec F S8x19x512x512 .f32) (t : IVec S8x512x512 32) : FVec F S_ .f32 :=
  Host.divf (Host.reduceAdd (mulf (Host.gather gather_S19_S8x512x512x1_S8x512x512_n_0_n_n_0_3_1 (weight x t) (weightAt t)) (loss x t))
    (constant S_ .f32 0x00000000#32) reducesTo_S8x512x512_S_d0_1_2 h_S_) (constant S_ .f32 0x4A000000#32)

/-! ## The run -/

/-- @main's operations, in order. -/
abbrev ops : List (HloOp τ sig (Elt F)) :=
  [ TRef.nullary (TRef.of (T := ⟨S8x19x512x512, .i32⟩) main_call0_v0) (iotaInDim S8x19x512x512 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S8x19x512x512, .f32⟩) main_arg0) (TRef.of (T := ⟨S8x19x512x512, .i32⟩) main_call0_v0) (TRef.of (T := ⟨S_, .f32⟩) main_call0_cst) (TRef.of (T := ⟨S_, .i32⟩) main_call0_c) (TRef.of (T := ⟨S8x512x512, .f32⟩) main_call0_v1_0) (fun x y u v j => (Host.argReduce reducer_argmax_f32_i32 x y u v reducesTo_S8x19x512x512_S8x512x512_d1 h_S_ j).1),
    TRef.quaternary (TRef.of (T := ⟨S8x19x512x512, .f32⟩) main_arg0) (TRef.of (T := ⟨S8x19x512x512, .i32⟩) main_call0_v0) (TRef.of (T := ⟨S_, .f32⟩) main_call0_cst) (TRef.of (T := ⟨S_, .i32⟩) main_call0_c) (TRef.of (T := ⟨S8x512x512, .i32⟩) main_v0) (fun x y u v j => (Host.argReduce reducer_argmax_f32_i32 x y u v reducesTo_S8x19x512x512_S8x512x512_d1 h_S_ j).2),
    binary main_v0 main_arg1 main_v1 (cmpi .ne : (⟨S8x512x512, .i32⟩ : BufTy).Contents (Elt F) → (⟨S8x512x512, .i32⟩ : BufTy).Contents (Elt F) → (⟨S8x512x512, .i1⟩ : BufTy).Contents (Elt F)),
    reshape main_v1 main_v2 (rfl : (.i1 : EltTy) = .i1) shapeCasts_S8x512x512_S2097152,
    reshape main_arg1 main_v3 (rfl : (.i32 : EltTy) = .i32) shapeCasts_S8x512x512_S2097152,
    nullary main_c (constantI S_ 32 0#32),
    unary main_c main_v4 (broadcastInDim S19 ![] bcast_S_S19 : (⟨S_, .i32⟩ : BufTy).Contents (Elt F) → (⟨S19, .i32⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S2097152, .i32⟩) main_call1_v1) (broadcastInDim S2097152 ![] bcast_S_S2097152),
    TRef.binary (TRef.of (T := ⟨S2097152, .i32⟩) main_call1_v1) (TRef.of (T := ⟨S2097152, .i32⟩) main_v3) (TRef.of (T := ⟨S2097152, .i32⟩) main_v5) maxsi,
    nullary main_c_1 (constantI S_ 32 0#32),
    unary main_c_1 main_v6 (broadcastInDim S2097152 ![] bcast_S_S2097152 : (⟨S_, .i32⟩ : BufTy).Contents (Elt F) → (⟨S2097152, .i32⟩ : BufTy).Contents (Elt F)),
    binary main_v5 main_v6 main_v7 (cmpi .slt : (⟨S2097152, .i32⟩ : BufTy).Contents (Elt F) → (⟨S2097152, .i32⟩ : BufTy).Contents (Elt F) → (⟨S2097152, .i1⟩ : BufTy).Contents (Elt F)),
    nullary main_c_2 (constantI S_ 32 19#32),
    unary main_c_2 main_v8 (broadcastInDim S2097152 ![] bcast_S_S2097152 : (⟨S_, .i32⟩ : BufTy).Contents (Elt F) → (⟨S2097152, .i32⟩ : BufTy).Contents (Elt F)),
    binary main_v5 main_v8 main_v9 (addi : (⟨S2097152, .i32⟩ : BufTy).Contents (Elt F) → (⟨S2097152, .i32⟩ : BufTy).Contents (Elt F) → (⟨S2097152, .i32⟩ : BufTy).Contents (Elt F)),
    ternary main_v7 main_v9 main_v5 main_v10 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v10 main_v11 (broadcastInDim S2097152x1 ![0] bcast_S2097152_S2097152x1_0 : (⟨S2097152, .i32⟩ : BufTy).Contents (Elt F) → (⟨S2097152x1, .i32⟩ : BufTy).Contents (Elt F)),
    nullary main_c_3 (constantI S_ 32 1#32),
    unary main_c_3 main_v12 (broadcastInDim S2097152 ![] bcast_S_S2097152 : (⟨S_, .i32⟩ : BufTy).Contents (Elt F) → (⟨S2097152, .i32⟩ : BufTy).Contents (Elt F)),
    ternary main_v4 main_v11 main_v12 main_v13 ((fun x i u => Host.scatter scatter_S19_S2097152x1_S2097152_n_0_0_1 IntOp.addi x i u) : (⟨S19, .i32⟩ : BufTy).Contents (Elt F) → (⟨S2097152x1, .i32⟩ : BufTy).Contents (Elt F) → (⟨S2097152, .i32⟩ : BufTy).Contents (Elt F) → (⟨S19, .i32⟩ : BufTy).Contents (Elt F)),
    nullary main_c_4 (constantI S_ 32 0#32),
    unary main_c_4 main_v14 (broadcastInDim S19 ![] bcast_S_S19 : (⟨S_, .i32⟩ : BufTy).Contents (Elt F) → (⟨S19, .i32⟩ : BufTy).Contents (Elt F)),
    binary main_v13 main_v14 main_v15 (cmpi .sgt : (⟨S19, .i32⟩ : BufTy).Contents (Elt F) → (⟨S19, .i32⟩ : BufTy).Contents (Elt F) → (⟨S19, .i1⟩ : BufTy).Contents (Elt F)),
    unary main_v13 main_v16 (sitofp .f32 : (⟨S19, .i32⟩ : BufTy).Contents (Elt F) → (⟨S19, .f32⟩ : BufTy).Contents (Elt F)),
    nullary main_cst (constant S_ .f32 0x3F800000#32),
    TRef.unary (TRef.of (T := ⟨S_, .f32⟩) main_cst) (TRef.of (T := ⟨S19, .f32⟩) main_call2_v0) (broadcastInDim S19 ![] bcast_S_S19),
    TRef.ternary (TRef.of (T := ⟨S19, .i1⟩) main_v15) (TRef.of (T := ⟨S19, .f32⟩) main_v16) (TRef.of (T := ⟨S19, .f32⟩) main_call2_v0) (TRef.of (T := ⟨S19, .f32⟩) main_v17) select,
    unary main_v2 main_v18 (uitofp .f32 : (⟨S2097152, .i1⟩ : BufTy).Contents (Elt F) → (⟨S2097152, .f32⟩ : BufTy).Contents (Elt F)),
    nullary main_cst_5 (constant S_ .f32 0x00000000#32),
    unary main_cst_5 main_v19 (broadcastInDim S19 ![] bcast_S_S19 : (⟨S_, .f32⟩ : BufTy).Contents (Elt F) → (⟨S19, .f32⟩ : BufTy).Contents (Elt F)),
    nullary main_c_6 (constantI S_ 32 0#32),
    TRef.unary (TRef.of (T := ⟨S_, .i32⟩) main_c_6) (TRef.of (T := ⟨S_, .i32⟩) main_call3_v0) id,
    TRef.unary (TRef.of (T := ⟨S_, .i32⟩) main_call3_v0) (TRef.of (T := ⟨S2097152, .i32⟩) main_call3_v1) (broadcastInDim S2097152 ![] bcast_S_S2097152),
    TRef.binary (TRef.of (T := ⟨S2097152, .i32⟩) main_call3_v1) (TRef.of (T := ⟨S2097152, .i32⟩) main_v3) (TRef.of (T := ⟨S2097152, .i32⟩) main_v20) maxsi,
    nullary main_c_7 (constantI S_ 32 0#32),
    unary main_c_7 main_v21 (broadcastInDim S2097152 ![] bcast_S_S2097152 : (⟨S_, .i32⟩ : BufTy).Contents (Elt F) → (⟨S2097152, .i32⟩ : BufTy).Contents (Elt F)),
    binary main_v20 main_v21 main_v22 (cmpi .slt : (⟨S2097152, .i32⟩ : BufTy).Contents (Elt F) → (⟨S2097152, .i32⟩ : BufTy).Contents (Elt F) → (⟨S2097152, .i1⟩ : BufTy).Contents (Elt F)),
    nullary main_c_8 (constantI S_ 32 19#32),
    unary main_c_8 main_v23 (broadcastInDim S2097152 ![] bcast_S_S2097152 : (⟨S_, .i32⟩ : BufTy).Contents (Elt F) → (⟨S2097152, .i32⟩ : BufTy).Contents (Elt F)),
    binary main_v20 main_v23 main_v24 (addi : (⟨S2097152, .i32⟩ : BufTy).Contents (Elt F) → (⟨S2097152, .i32⟩ : BufTy).Contents (Elt F) → (⟨S2097152, .i32⟩ : BufTy).Contents (Elt F)),
    ternary main_v22 main_v24 main_v20 main_v25 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v25 main_v26 (broadcastInDim S2097152x1 ![0] bcast_S2097152_S2097152x1_0 : (⟨S2097152, .i32⟩ : BufTy).Contents (Elt F) → (⟨S2097152x1, .i32⟩ : BufTy).Contents (Elt F)),
    ternary main_v19 main_v26 main_v18 main_v27 ((fun x i u => Host.scatterAdd scatter_S19_S2097152x1_S2097152_n_0_0_1 x i u) : (⟨S19, .f32⟩ : BufTy).Contents (Elt F) → (⟨S2097152x1, .i32⟩ : BufTy).Contents (Elt F) → (⟨S2097152, .f32⟩ : BufTy).Contents (Elt F) → (⟨S19, .f32⟩ : BufTy).Contents (Elt F)),
    nullary main_cst_9 (constant S_ .f32 0x00000000#32),
    unary main_cst_9 main_v28 (broadcastInDim S19 ![] bcast_S_S19 : (⟨S_, .f32⟩ : BufTy).Contents (Elt F) → (⟨S19, .f32⟩ : BufTy).Contents (Elt F)),
    binary main_v27 main_v28 main_v29 (cmpf .ogt : (⟨S19, .f32⟩ : BufTy).Contents (Elt F) → (⟨S19, .f32⟩ : BufTy).Contents (Elt F) → (⟨S19, .i1⟩ : BufTy).Contents (Elt F)),
    nullary main_cst_10 (constant S_ .f32 0x3F800000#32),
    TRef.unary (TRef.of (T := ⟨S_, .f32⟩) main_cst_10) (TRef.of (T := ⟨S19, .f32⟩) main_call4_v0) (broadcastInDim S19 ![] bcast_S_S19),
    TRef.ternary (TRef.of (T := ⟨S19, .i1⟩) main_v29) (TRef.of (T := ⟨S19, .f32⟩) main_v27) (TRef.of (T := ⟨S19, .f32⟩) main_call4_v0) (TRef.of (T := ⟨S19, .f32⟩) main_v30) select,
    nullary main_cst_11 (constant S_ .f32 0x33D6BF95#32),
    unary main_cst_11 main_v31 (broadcastInDim S19 ![] bcast_S_S19 : (⟨S_, .f32⟩ : BufTy).Contents (Elt F) → (⟨S19, .f32⟩ : BufTy).Contents (Elt F)),
    binary main_v17 main_v31 main_v32 (addf : (⟨S19, .f32⟩ : BufTy).Contents (Elt F) → (⟨S19, .f32⟩ : BufTy).Contents (Elt F) → (⟨S19, .f32⟩ : BufTy).Contents (Elt F)),
    binary main_v30 main_v32 main_v33 (Host.divf : (⟨S19, .f32⟩ : BufTy).Contents (Elt F) → (⟨S19, .f32⟩ : BufTy).Contents (Elt F) → (⟨S19, .f32⟩ : BufTy).Contents (Elt F)),
    TRef.nullary (TRef.of (T := ⟨S_, .f32⟩) main_call5_cst) (constant S_ .f32 0xFF800000#32),
    TRef.binary (TRef.of (T := ⟨S8x19x512x512, .f32⟩) main_arg0) (TRef.of (T := ⟨S_, .f32⟩) main_call5_cst) (TRef.of (T := ⟨S8x512x512, .f32⟩) main_call5_v0) (fun x v => Host.reduce FloatOps.maximumf x v reducesTo_S8x19x512x512_S8x512x512_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S8x512x512, .f32⟩) main_call5_v1) (broadcastInDim S8x512x512 ![] bcast_S_S8x512x512),
    TRef.binary (TRef.of (T := ⟨S8x512x512, .f32⟩) main_call5_v1) (TRef.of (T := ⟨S8x512x512, .f32⟩) main_call5_v0) (TRef.of (T := ⟨S8x512x512, .f32⟩) main_call5_v2) maximumf,
    TRef.unary (TRef.of (T := ⟨S8x512x512, .f32⟩) main_call5_v2) (TRef.of (T := ⟨S8x1x512x512, .f32⟩) main_call5_v3) (broadcastInDim S8x1x512x512 ![0, 2, 3] bcast_S8x512x512_S8x1x512x512_0_2_3),
    TRef.unary (TRef.of (T := ⟨S8x1x512x512, .f32⟩) main_call5_v3) (TRef.of (T := ⟨S8x19x512x512, .f32⟩) main_call5_v4) (broadcastInDim S8x19x512x512 ![0, 1, 2, 3] bcast_S8x1x512x512_S8x19x512x512_0_1_2_3),
    TRef.binary (TRef.of (T := ⟨S8x19x512x512, .f32⟩) main_arg0) (TRef.of (T := ⟨S8x19x512x512, .f32⟩) main_call5_v4) (TRef.of (T := ⟨S8x19x512x512, .f32⟩) main_call5_v5) subf,
    TRef.unary (TRef.of (T := ⟨S8x19x512x512, .f32⟩) main_call5_v5) (TRef.of (T := ⟨S8x19x512x512, .f32⟩) main_call5_v6) Host.exp,
    TRef.nullary (TRef.of (T := ⟨S_, .f32⟩) main_call5_cst_1) (constant S_ .f32 0x00000000#32),
    TRef.binary (TRef.of (T := ⟨S8x19x512x512, .f32⟩) main_call5_v6) (TRef.of (T := ⟨S_, .f32⟩) main_call5_cst_1) (TRef.of (T := ⟨S8x512x512, .f32⟩) main_call5_v7) (fun x v => Host.reduceAdd x v reducesTo_S8x19x512x512_S8x512x512_d1 h_S_),
    TRef.unary (TRef.of (T := ⟨S8x512x512, .f32⟩) main_call5_v7) (TRef.of (T := ⟨S8x1x512x512, .f32⟩) main_call5_v8) (broadcastInDim S8x1x512x512 ![0, 2, 3] bcast_S8x512x512_S8x1x512x512_0_2_3),
    TRef.unary (TRef.of (T := ⟨S8x1x512x512, .f32⟩) main_call5_v8) (TRef.of (T := ⟨S8x1x512x512, .f32⟩) main_call5_v9) Host.log,
    TRef.unary (TRef.of (T := ⟨S8x1x512x512, .f32⟩) main_call5_v9) (TRef.of (T := ⟨S8x19x512x512, .f32⟩) main_call5_v10) (broadcastInDim S8x19x512x512 ![0, 1, 2, 3] bcast_S8x1x512x512_S8x19x512x512_0_1_2_3),
    TRef.binary (TRef.of (T := ⟨S8x19x512x512, .f32⟩) main_call5_v5) (TRef.of (T := ⟨S8x19x512x512, .f32⟩) main_call5_v10) (TRef.of (T := ⟨S8x19x512x512, .f32⟩) main_v34) subf,
    unary main_arg1 main_v35 (broadcastInDim S8x1x512x512 ![0, 2, 3] bcast_S8x512x512_S8x1x512x512_0_2_3 : (⟨S8x512x512, .i32⟩ : BufTy).Contents (Elt F) → (⟨S8x1x512x512, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S8x1x512x512, .i32⟩) main_call6_v0) (broadcastInDim S8x1x512x512 ![] bcast_S_S8x1x512x512),
    TRef.binary (TRef.of (T := ⟨S8x1x512x512, .i32⟩) main_v35) (TRef.of (T := ⟨S8x1x512x512, .i32⟩) main_call6_v0) (TRef.of (T := ⟨S8x1x512x512, .i1⟩) main_call6_v1) (cmpi .slt),
    TRef.nullary (TRef.of (T := ⟨S_, .i32⟩) main_call6_c_0) (constantI S_ 32 19#32),
    TRef.unary (TRef.of (T := ⟨S_, .i32⟩) main_call6_c_0) (TRef.of (T := ⟨S8x1x512x512, .i32⟩) main_call6_v2) (broadcastInDim S8x1x512x512 ![] bcast_S_S8x1x512x512),
    TRef.binary (TRef.of (T := ⟨S8x1x512x512, .i32⟩) main_v35) (TRef.of (T := ⟨S8x1x512x512, .i32⟩) main_call6_v2) (TRef.of (T := ⟨S8x1x512x512, .i32⟩) main_call6_v3) addi,
    TRef.ternary (TRef.of (T := ⟨S8x1x512x512, .i1⟩) main_call6_v1) (TRef.of (T := ⟨S8x1x512x512, .i32⟩) main_call6_v3) (TRef.of (T := ⟨S8x1x512x512, .i32⟩) main_v35) (TRef.of (T := ⟨S8x1x512x512, .i32⟩) main_call6_v4) select,
    TRef.reshape (TRef.of (T := ⟨S8x1x512x512, .i32⟩) main_call6_v4) (TRef.of (T := ⟨S8x1x512x512x1, .i32⟩) main_call6_v5) (rfl : (.i32 : EltTy) = .i32) shapeCasts_S8x1x512x512_S8x1x512x512x1,
    TRef.nullary (TRef.of (T := ⟨S1, .i32⟩) main_call6_c_1) (constantI S1 32 18#32),
    TRef.nullary (TRef.of (T := ⟨S_, .i32⟩) main_call6_c_2) (constantI S_ 32 0#32),
    TRef.unary (TRef.of (T := ⟨S_, .i32⟩) main_call6_c_2) (TRef.of (T := ⟨S8x1x512x512x1, .i32⟩) main_call6_v6) (broadcastInDim S8x1x512x512x1 ![] bcast_S_S8x1x512x512x1),
    TRef.binary (TRef.of (T := ⟨S8x1x512x512x1, .i32⟩) main_call6_v5) (TRef.of (T := ⟨S8x1x512x512x1, .i32⟩) main_call6_v6) (TRef.of (T := ⟨S8x1x512x512x1, .i1⟩) main_call6_v7) (cmpi .sge),
    TRef.unary (TRef.of (T := ⟨S1, .i32⟩) main_call6_c_1) (TRef.of (T := ⟨S1x1x1x1x1, .i32⟩) main_call6_v8) (broadcastInDim S1x1x1x1x1 ![4] bcast_S1_S1x1x1x1x1_4),
    TRef.unary (TRef.of (T := ⟨S1x1x1x1x1, .i32⟩) main_call6_v8) (TRef.of (T := ⟨S8x1x512x512x1, .i32⟩) main_call6_v9) (broadcastInDim S8x1x512x512x1 ![0, 1, 2, 3, 4] bcast_S1x1x1x1x1_S8x1x512x512x1_0_1_2_3_4),
    TRef.binary (TRef.of (T := ⟨S8x1x512x512x1, .i32⟩) main_call6_v5) (TRef.of (T := ⟨S8x1x512x512x1, .i32⟩) main_call6_v9) (TRef.of (T := ⟨S8x1x512x512x1, .i1⟩) main_call6_v10) (cmpi .sle),
    TRef.binary (TRef.of (T := ⟨S8x1x512x512x1, .i1⟩) main_call6_v7) (TRef.of (T := ⟨S8x1x512x512x1, .i1⟩) main_call6_v10) (TRef.of (T := ⟨S8x1x512x512x1, .i1⟩) main_call6_v11) andi,
    TRef.nullary (TRef.of (T := ⟨S_, .i1⟩) main_call6_c_3) (constantI S_ 1 1#1),
    TRef.binary (TRef.of (T := ⟨S8x1x512x512x1, .i1⟩) main_call6_v11) (TRef.of (T := ⟨S_, .i1⟩) main_call6_c_3) (TRef.of (T := ⟨S8x1x512x512, .i1⟩) main_call6_v12) (fun x v => Host.reduce IntOp.andi x v reducesTo_S8x1x512x512x1_S8x1x512x512_d4 h_S_),
    TRef.binary (TRef.of (T := ⟨S8x19x512x512, .f32⟩) main_v34) (TRef.of (T := ⟨S8x1x512x512x1, .i32⟩) main_call6_v5) (TRef.of (T := ⟨S8x1x512x512, .f32⟩) main_call6_v13) (fun x i => Host.gather gather_S8x19x512x512_S8x1x512x512x1_S8x1x512x512_n_1_023_023_1_4_1111 x i),
    TRef.nullary (TRef.of (T := ⟨S_, .f32⟩) main_call6_cst) (constant S_ .f32 0x7FC00000#32),
    TRef.unary (TRef.of (T := ⟨S_, .f32⟩) main_call6_cst) (TRef.of (T := ⟨S8x1x512x512, .f32⟩) main_call6_v14) (broadcastInDim S8x1x512x512 ![] bcast_S_S8x1x512x512),
    TRef.ternary (TRef.of (T := ⟨S8x1x512x512, .i1⟩) main_call6_v12) (TRef.of (T := ⟨S8x1x512x512, .f32⟩) main_call6_v13) (TRef.of (T := ⟨S8x1x512x512, .f32⟩) main_call6_v14) (TRef.of (T := ⟨S8x1x512x512, .f32⟩) main_v36) select,
    reshape main_v36 main_v37 (rfl : (.f32 : EltTy) = .f32) shapeCasts_S8x1x512x512_S8x512x512,
    unary main_v37 main_v38 (Host.negf : (⟨S8x512x512, .f32⟩ : BufTy).Contents (Elt F) → (⟨S8x512x512, .f32⟩ : BufTy).Contents (Elt F)),
    nullary main_c_12 (constantI S_ 32 0#32),
    unary main_c_12 main_v39 (broadcastInDim S8x512x512 ![] bcast_S_S8x512x512 : (⟨S_, .i32⟩ : BufTy).Contents (Elt F) → (⟨S8x512x512, .i32⟩ : BufTy).Contents (Elt F)),
    binary main_arg1 main_v39 main_v40 (cmpi .slt : (⟨S8x512x512, .i32⟩ : BufTy).Contents (Elt F) → (⟨S8x512x512, .i32⟩ : BufTy).Contents (Elt F) → (⟨S8x512x512, .i1⟩ : BufTy).Contents (Elt F)),
    nullary main_c_13 (constantI S_ 32 19#32),
    unary main_c_13 main_v41 (broadcastInDim S8x512x512 ![] bcast_S_S8x512x512 : (⟨S_, .i32⟩ : BufTy).Contents (Elt F) → (⟨S8x512x512, .i32⟩ : BufTy).Contents (Elt F)),
    binary main_arg1 main_v41 main_v42 (addi : (⟨S8x512x512, .i32⟩ : BufTy).Contents (Elt F) → (⟨S8x512x512, .i32⟩ : BufTy).Contents (Elt F) → (⟨S8x512x512, .i32⟩ : BufTy).Contents (Elt F)),
    ternary main_v40 main_v42 main_arg1 main_v43 (select : (⟨S8x512x512, .i1⟩ : BufTy).Contents (Elt F) → (⟨S8x512x512, .i32⟩ : BufTy).Contents (Elt F) → (⟨S8x512x512, .i32⟩ : BufTy).Contents (Elt F) → (⟨S8x512x512, .i32⟩ : BufTy).Contents (Elt F)),
    unary main_v43 main_v44 (broadcastInDim S8x512x512x1 ![0, 1, 2] bcast_S8x512x512_S8x512x512x1_0_1_2 : (⟨S8x512x512, .i32⟩ : BufTy).Contents (Elt F) → (⟨S8x512x512x1, .i32⟩ : BufTy).Contents (Elt F)),
    binary main_v33 main_v44 main_v45 ((fun x i => Host.gather gather_S19_S8x512x512x1_S8x512x512_n_0_n_n_0_3_1 x i) : (⟨S19, .f32⟩ : BufTy).Contents (Elt F) → (⟨S8x512x512x1, .i32⟩ : BufTy).Contents (Elt F) → (⟨S8x512x512, .f32⟩ : BufTy).Contents (Elt F)),
    binary main_v45 main_v38 main_v46 (mulf : (⟨S8x512x512, .f32⟩ : BufTy).Contents (Elt F) → (⟨S8x512x512, .f32⟩ : BufTy).Contents (Elt F) → (⟨S8x512x512, .f32⟩ : BufTy).Contents (Elt F)),
    nullary main_cst_14 (constant S_ .f32 0x00000000#32),
    binary main_v46 main_cst_14 main_v47 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
    nullary main_cst_15 (constant S_ .f32 0x4A000000#32),
    binary main_v47 main_cst_15 main_v48 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is the list. -/
theorem main_eq (c : Dev nD) : main (F := F) c = seq ops := rfl

/-- No buffer of it is scoped. -/
theorem scopedRefs_eq : (Finset.univ.filter fun b : Ref sig .tc => b.isScoped) = ∅ := by decide

/-- No semaphore of it is scoped. -/
theorem scopedSems_eq : (Finset.univ.filter fun sm : SemLoc sig => sm.isScoped .tc) = ∅ := by decide

set_option maxRecDepth 8192 in
/-- The operations touch the core's buffers alone. -/
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., binary_bufs_sub ..,
    reshape_bufs_sub .., reshape_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., unary_bufs_sub .., nullary_bufs_sub ..,
    unary_bufs_sub .., ternary_bufs_sub .., unary_bufs_sub .., nullary_bufs_sub .., unary_bufs_sub .., nullary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., ternary_bufs_sub ..,
    nullary_bufs_sub .., unary_bufs_sub .., binary_bufs_sub .., nullary_bufs_sub .., unary_bufs_sub .., ternary_bufs_sub ..,
    nullary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    reshape_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., binary_bufs_sub .., nullary_bufs_sub .., binary_bufs_sub ..⟩

set_option maxRecDepth 8192 in
set_option maxHeartbeats 44000000 in
/-- Every execution ends with the mean weighted loss of the arguments, which it leaves unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = mean (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v48).trans (by simp only [ops, TRef.quaternary, TRef.binary, TRef.nullary, TRef.reshape, TRef.ternary, TRef.unary, TRef.toBuf, TRef.ofBuf, cast_eq]; after_results_simp <;> rfl),
      (h c main_arg0).trans (by simp only [ops, TRef.quaternary, TRef.binary, TRef.nullary, TRef.reshape, TRef.ternary, TRef.unary, TRef.toBuf, TRef.ofBuf, cast_eq]; after_results_simp <;> rfl),
      (h c main_arg1).trans (by simp only [ops, TRef.quaternary, TRef.binary, TRef.nullary, TRef.reshape, TRef.ternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Loss

end
-- ==== Proof.Fiber.lean ====
/- A pixel's logits as the indices a reduction along the classes folds over: the maximum, the sum and the arg-max there. -/
module

public import proofs.«01_k».proof.Proof.Pixel

@[expose] public section

noncomputable section

open Idealize.ShloMosaic

namespace Cert.Loss

open Finset

/-- Every index of a [8,512,512] array. -/
theorem at3_of (j : (⟨3, ![8, 512, 512]⟩ : Shape).Idx) : j = at3 (j 0).val (j 1).val (j 2).val := by
  funext k
  match k with
  | ⟨0, _⟩ => exact Fin.ext (Nat.mod_eq_of_lt (j 0).isLt).symm
  | ⟨1, _⟩ => exact Fin.ext (Nat.mod_eq_of_lt (j 1).isLt).symm
  | ⟨2, _⟩ => exact Fin.ext (Nat.mod_eq_of_lt (j 2).isLt).symm

/-- The indices a reduction along the classes gathers at a pixel are the pixel's logits. -/
theorem drop_iff (h : (⟨4, ![8, 19, 512, 512]⟩ : Shape).ReducesTo [1] ⟨3, ![8, 512, 512]⟩) (i y l : ℕ) (k : (⟨4, ![8, 19, 512, 512]⟩ : Shape).Idx) :
    h.drop k = at3 i y l ↔ ∃ c, c < 19 ∧ at4 i y l c = k := by
  have d0 : (h.drop k 0 : ℕ) = k 0 := h.drop_apply_val_of_eq k 0 0
  have d1 : (h.drop k 1 : ℕ) = k 2 := h.drop_apply_val_of_eq k 1 2
  have d2 : (h.drop k 2 : ℕ) = k 3 := h.drop_apply_val_of_eq k 2 3
  constructor
  · intro e
    rw [e] at d0 d1 d2
    refine ⟨(k 1).val, (k 1).isLt, funext fun a => Fin.ext ?_⟩
    match a with
    | ⟨0, _⟩ => exact d0
    | ⟨1, _⟩ => exact Nat.mod_eq_of_lt (k 1).isLt
    | ⟨2, _⟩ => exact d1
    | ⟨3, _⟩ => exact d2
  · rintro ⟨c, _, rfl⟩
    funext a
    match a with
    | ⟨0, _⟩ => exact Fin.ext d0
    | ⟨1, _⟩ => exact Fin.ext d1
    | ⟨2, _⟩ => exact Fin.ext d2

/-- The same as a set of indices. -/
theorem filter_drop (h : (⟨4, ![8, 19, 512, 512]⟩ : Shape).ReducesTo [1] ⟨3, ![8, 512, 512]⟩) (i y l : ℕ) :
    (univ.filter fun k => h.drop k = at3 i y l) = (range 19).image (at4 i y l) := by
  ext k
  rw [mem_filter, mem_image]
  exact ⟨fun e => by obtain ⟨c, hc, e⟩ := (drop_iff h i y l k).mp e.2; exact ⟨c, mem_range.mpr hc, e⟩,
    fun ⟨c, hc, e⟩ => ⟨mem_univ _, (drop_iff h i y l k).mpr ⟨c, mem_range.mp hc, e⟩⟩⟩

/-- Different classes are different logits. -/
theorem at4_inj (i y l : ℕ) : ∀ c ∈ range 19, ∀ c' ∈ range 19, at4 i y l c = at4 i y l c' → c = c' := by
  intro c hc c' hc' e
  have h : c % 19 = c' % 19 := congrArg (fun k : (⟨4, ![8, 19, 512, 512]⟩ : Shape).Idx => (k 1).val) e
  rwa [Nat.mod_eq_of_lt (mem_range.mp hc), Nat.mod_eq_of_lt (mem_range.mp hc')] at h

/-- The constant below every logit. -/
theorem ofBits_bot : Ideal.ofBits .f32 0xFF800000#32 = ⊥ := by
  simp [Ideal.ofBits, Ideal.ieee]

/-- The constant above every logit. -/
theorem ofBits_top : Ideal.ofBits .f32 0x7F800000#32 = ⊤ := by
  simp [Ideal.ofBits, Ideal.ieee]

variable (x : FVec Ideal ⟨4, ![8, 19, 512, 512]⟩ .f32) {u : Shape}

/-- A pixel's largest logit, as a reduction. -/
theorem reduce_max (init : u.Idx → Ideal .f32) (h : (⟨4, ![8, 19, 512, 512]⟩ : Shape).ReducesTo [1] ⟨3, ![8, 512, 512]⟩) (hu : 0 < u.numel)
    (hi : ∀ k, init k = (⊥ : EReal)) (i y l : ℕ) :
    (Host.reduce (FloatOps.maximumf (F := Ideal) (φ := .f32)) x init h hu (at3 i y l) : EReal) = best (logits x i y l) := by
  refine (Host.reduce_eq_fold (α := EReal) max x init h hu (at3 i y l)).trans ?_
  rw [hi]
  show ((univ.filter fun k => h.drop k = at3 i y l).sup x : EReal) = (range 19).sup (logits x i y l)
  rw [filter_drop, sup_image]
  rfl

/-- A sum along a pixel's classes, as a reduction. -/
theorem reduce_sum (init : EReal) (h : (⟨4, ![8, 19, 512, 512]⟩ : Shape).ReducesTo [1] ⟨3, ![8, 512, 512]⟩) (i y l : ℕ) :
    Ideal.hostReduceAdd h x init (at3 i y l) = init + ∑ c ∈ range 19, (x (at4 i y l c) : EReal) := by
  unfold Ideal.hostReduceAdd
  rw [filter_drop, sum_image (at4_inj i y l)]

/-- What is kept of the logits met so far: a class `k` and its logit, or the start. -/
structure Kept (v : ℕ → EReal) (p : EReal × BitVec 32) (k : ℕ) : Prop where
  lt : k < 19
  index : p.2 = BitVec.ofNat 32 k
  value : p.1 = ⊥ ∨ p.1 = v k

section Fold

variable {v : ℕ → EReal} {f : EReal × BitVec 32 → EReal × BitVec 32 → EReal × BitVec 32}
  (hf : ∀ w k c, k < 19 → c < 19 → f (w, BitVec.ofNat 32 k) (v c, BitVec.ofNat 32 c)
    = (if v c < w then w else v c, if v c < w ∨ (w = v c ∧ k < c) then BitVec.ofNat 32 k else BitVec.ofNat 32 c))
include hf

/-- One step of the arg-max. -/
theorem step_argmax {p : EReal × BitVec 32} {k c : ℕ} (hp : Kept v p k) (hc : c < 19) :
    ∃ k', Kept v (f p (v c, BitVec.ofNat 32 c)) k' ∧ p.1 ≤ (f p (v c, BitVec.ofNat 32 c)).1 ∧ v c ≤ (f p (v c, BitVec.ofNat 32 c)).1
      ∧ (p.1 = (f p (v c, BitVec.ofNat 32 c)).1 → k' ≤ k) ∧ (v c = (f p (v c, BitVec.ofNat 32 c)).1 → k' ≤ c) := by
  obtain ⟨w, b⟩ := p
  obtain ⟨hk, hb, hv⟩ := hp
  obtain rfl : b = BitVec.ofNat 32 k := hb
  rw [hf w k c hk hc]
  by_cases h : v c < w
  · rw [if_pos h, if_pos (Or.inl h)]
    exact ⟨k, ⟨hk, rfl, hv⟩, le_rfl, h.le, fun _ => le_rfl, fun e => absurd e h.ne⟩
  · rw [if_neg h]
    by_cases h' : w = v c ∧ k < c
    · rw [if_pos (Or.inr h')]
      exact ⟨k, ⟨hk, rfl, by rw [← h'.1]; exact hv⟩, not_lt.mp h, le_rfl, fun _ => le_rfl, fun _ => h'.2.le⟩
    · rw [if_neg (by rintro (e | e); exacts [h e, h' e])]
      exact ⟨c, ⟨hc, rfl, Or.inr rfl⟩, not_lt.mp h, le_rfl, fun e => not_lt.mp fun hlt => h' ⟨e, hlt⟩, fun _ => le_rfl⟩

/-- The arg-max over a list of logits: a class with the largest logit, the first such. -/
theorem fold_argmax : ∀ (L : List (EReal × BitVec 32)) (p : EReal × BitVec 32) (k : ℕ), Kept v p k →
    (∀ q ∈ L, ∃ c, c < 19 ∧ q = (v c, BitVec.ofNat 32 c)) →
    ∃ k', Kept v (L.foldl f p) k' ∧ p.1 ≤ (L.foldl f p).1 ∧ (p.1 = (L.foldl f p).1 → k' ≤ k)
      ∧ ∀ c, c < 19 → (v c, BitVec.ofNat 32 c) ∈ L → v c ≤ (L.foldl f p).1 ∧ (v c = (L.foldl f p).1 → k' ≤ c)
  | [], p, k, hp, _ => ⟨k, hp, le_rfl, fun _ => le_rfl, fun _ _ h => absurd h List.not_mem_nil⟩
  | q :: L, p, k, hp, hL => by
    obtain ⟨c, hc, rfl⟩ := hL q List.mem_cons_self
    obtain ⟨k1, h1, hpw, hcw, hpe, hce⟩ := step_argmax hf hp hc
    obtain ⟨k2, h2, hle, he, hall⟩ := fold_argmax L _ k1 h1 fun q hq => hL q (List.mem_cons_of_mem _ hq)
    rw [List.foldl_cons]
    refine ⟨k2, h2, hpw.trans hle, fun e => ?_, fun d hd hmem => ?_⟩
    · have e1 : p.1 = (f p (v c, BitVec.ofNat 32 c)).1 := le_antisymm hpw (hle.trans e.symm.le)
      exact (he (e1.symm.trans e)).trans (hpe e1)
    · rcases List.mem_cons.mp hmem with e | hm
      · have hcd : v d = v c := congrArg Prod.fst e
        have hdc : d = c := by
          have := congrArg BitVec.toNat (congrArg Prod.snd e)
          dsimp only at this
          rw [BitVec.toNat_ofNat, BitVec.toNat_ofNat] at this
          omega
        subst hdc
        refine ⟨hcw.trans hle, fun e => ?_⟩
        have e1 : v d = (f p (v d, BitVec.ofNat 32 d)).1 := le_antisymm hcw (hle.trans e.symm.le)
        exact (he (e1.symm.trans e)).trans (hce e1)
      · exact hall d hd hm

/-- So against a target class: the arg-max is another class exactly when the target's logit is below the largest, once no
    earlier class has the target's largest logit. -/
theorem argmax_ne {L : List (EReal × BitVec 32)} (hL : ∀ q, q ∈ L ↔ ∃ c, c < 19 ∧ q = (v c, BitVec.ofNat 32 c)) {T : ℕ} (hT : T < 19)
    (hlo : best v ≠ ⊥) (hfirst : ∀ c, c < T → v c < best v ∨ v T < best v) :
    (L.foldl f (⊥, 0#32)).2 ≠ BitVec.ofNat 32 T ↔ v T < best v := by
  obtain ⟨k, ⟨hk, hki, hkv⟩, -, -, hall⟩ := fold_argmax hf L (⊥, 0#32) 0 ⟨by decide, rfl, Or.inl rfl⟩ fun q hq => (hL q).mp hq
  have hge : ∀ c, c < 19 → v c ≤ (L.foldl f (⊥, 0#32)).1 := fun c hc => (hall c hc ((hL _).mpr ⟨c, hc, rfl⟩)).1
  have hbest : best v ≤ (L.foldl f (⊥, 0#32)).1 := Finset.sup_le fun c hc => hge c (mem_range.mp hc)
  have hne : (L.foldl f (⊥, 0#32)).1 ≠ ⊥ := fun e => hlo (le_bot_iff.mp (e ▸ hbest))
  have hvk : (L.foldl f (⊥, 0#32)).1 = v k := hkv.resolve_left hne
  have hle : ∀ c, c < 19 → v c ≤ best v := fun c hc => Finset.le_sup (f := v) (mem_range.mpr hc)
  have hval : v k = best v := le_antisymm (hle k hk) (hvk ▸ hbest)
  rw [hki]
  constructor
  · intro h
    by_contra hlt
    have hTb : v T = best v := le_antisymm (hle T hT) (not_lt.mp hlt)
    have hkT : k ≤ T := (hall T hT ((hL _).mpr ⟨T, hT, rfl⟩)).2 (by rw [hvk, hval, hTb])
    rcases lt_or_eq_of_le hkT with hlt' | rfl
    · rcases hfirst k hlt' with e | e
      · exact e.ne hval
      · exact e.ne hTb
    · exact h rfl
  · intro h e
    have : k = T := by
      have := congrArg BitVec.toNat e
      rw [BitVec.toNat_ofNat, BitVec.toNat_ofNat] at this
      omega
    subst this
    exact h.ne hval

end Fold

/-- A constant is its bit pattern's value. -/
theorem constant_apply {s : Shape} (w : BitVec 32) (k : s.Idx) : (constant (F := Ideal) s .f32 w k : EReal) = Ideal.ofBits .f32 w := rfl

/-- The constant minus infinity. -/
theorem constant_bot {s : Shape} (k : s.Idx) : (constant (F := Ideal) s .f32 0xFF800000#32 k : EReal) = ⊥ :=
  (constant_apply _ k).trans ofBits_bot

/-- A pixel the two programs agree at: its target is a class, some logit is above minus infinity, the target's is below plus infinity, and no earlier class ties the target for it. -/
def Good (x : FVec Ideal ⟨4, ![8, 19, 512, 512]⟩ .f32) (t : IVec ⟨3, ![8, 512, 512]⟩ 32) : Prop :=
  ∀ i y l, ∃ T, T < 19 ∧ target t i y l = BitVec.ofNat 32 T ∧ best (logits x i y l) ≠ ⊥ ∧ logits x i y l T ≠ ⊤
    ∧ ∀ c, c < T → logits x i y l c < best (logits x i y l) ∨ logits x i y l T < best (logits x i y l)

end Cert.Loss

end
-- ==== Proof.RefPixel.lean ====
/- The reference at a pixel, over the extended reals: its predicted class against its target, its log-softmax, its cross entropy. -/
module

public import proofs.«01_k».proof.Proof.RefRun
public import proofs.«01_k».proof.Proof.Fiber
public import Idealize.ShloMosaic.Lib.Pipeline.Value

@[expose] public section

noncomputable section

namespace Cert.ReferenceIdeal.Loss

open Cert.ReferenceIdeal Cert.ReferenceIdeal.Gen Idealize.ShloMosaic Cert.Loss Finset

/-- The reducer on two logits and their classes. -/
theorem reducer_apply (v : ℕ → EReal) (w : EReal) (k c : ℕ) (hk : k < 19) (hc : c < 19) :
    reducer_argmax_f32_i32 (F := Ideal) (w, BitVec.ofNat 32 k) (v c, BitVec.ofNat 32 c)
      = (if v c < w then w else v c, if v c < w ∨ (w = v c ∧ k < c) then BitVec.ofNat 32 k else BitVec.ofNat 32 c) := by
  have hs : (BitVec.ofNat 32 k).slt (BitVec.ofNat 32 c) = decide (k < c) := by
    have e : ∀ n, n < 19 → (BitVec.ofNat 32 n).toInt = (n : ℤ) := fun n hn => by interval_cases n <;> rfl
    show decide (_ < _) = _
    rw [e k hk, e c hc]
    exact decide_eq_decide.mpr Nat.cast_lt
  unfold reducer_argmax_f32_i32
  dsimp only
  rw [show FloatOps.cmpf (F := Ideal) (φ := .f32) .ogt w (v c) = BitVec.ofBool (decide (v c < w)) from rfl,
    show FloatOps.cmpf (F := Ideal) (φ := .f32) .une w w = BitVec.ofBool (decide (w ≠ w)) from rfl,
    show FloatOps.cmpf (F := Ideal) (φ := .f32) .oeq w (v c) = BitVec.ofBool (decide (w = v c)) from rfl,
    show IntOp.cmpi .slt (BitVec.ofNat 32 k) (BitVec.ofNat 32 c) = BitVec.ofBool ((BitVec.ofNat 32 k).slt (BitVec.ofNat 32 c)) from rfl, hs,
    decide_eq_false (fun h : w ≠ w => h rfl)]
  unfold Scalar.select
  by_cases h1 : v c < w
  · have h2 : ¬ w = v c := h1.ne'
    simp only [h1, h2, decide_true, decide_false, true_or, if_true, false_and]
    by_cases h3 : k < c <;> simp only [h3, decide_true, decide_false] <;> rfl
  · rw [decide_eq_false h1, if_neg h1]
    by_cases h2 : w = v c
    · rw [decide_eq_true h2]
      by_cases h3 : k < c
      · rw [decide_eq_true h3, if_pos (Or.inr ⟨h2, h3⟩)]
        rfl
      · rw [decide_eq_false h3, if_neg (show ¬(v c < w ∨ (w = v c ∧ k < c)) from fun h => h.elim h1 fun h => h3 h.2)]
        rfl
    · rw [decide_eq_false h2, if_neg (show ¬(v c < w ∨ (w = v c ∧ k < c)) from fun h => h.elim h1 fun h => h2 h.1)]
      by_cases h3 : k < c <;> simp only [h3, decide_true, decide_false] <;> rfl

variable (x : FVec Ideal S8x19x512x512 .f32) (t : IVec S8x512x512 32)

/-- The pairs the arg-max folds over at a pixel. -/
theorem mem_fiber (i y l : ℕ) (q : EReal × BitVec 32) :
    q ∈ Host.argReduceFiber (α := EReal) x (iotaInDim S8x19x512x512 32 1) reducesTo_S8x19x512x512_S8x512x512_d1 (at3 i y l)
      ↔ ∃ c, c < 19 ∧ q = (logits x i y l c, BitVec.ofNat 32 c) := by
  unfold Host.argReduceFiber
  rw [List.mem_map]
  constructor
  · rintro ⟨n, hn, rfl⟩
    obtain ⟨c, hc, e⟩ := (drop_iff _ i y l _).mp (of_decide_eq_true (List.mem_filter.mp hn).2)
    refine ⟨c, hc, ?_⟩
    rw [← e]
    refine Prod.ext rfl ?_
    show BitVec.ofNat 32 (c % 19) = _
    rw [Nat.mod_eq_of_lt hc]
  · rintro ⟨c, hc, rfl⟩
    refine ⟨S8x19x512x512.rowMajor (at4 i y l c), List.mem_filter.mpr ⟨List.mem_finRange _, decide_eq_true ?_⟩, ?_⟩
    · rw [Equiv.symm_apply_apply]
      exact (drop_iff _ i y l _).mpr ⟨c, hc, rfl⟩
    · rw [Equiv.symm_apply_apply]
      refine Prod.ext rfl ?_
      show BitVec.ofNat 32 (c % 19) = _
      rw [Nat.mod_eq_of_lt hc]

/-- The arg-max at a pixel is not its target exactly when the target's value is below the largest. -/
theorem argmax_apply {s0 : Shape} (hu : 0 < s0.numel) (ix : s0.Idx → EReal) (iy : s0.Idx → BitVec 32) (hix : ∀ k, ix k = ⊥) (hiy : ∀ k, iy k = 0#32)
    (f : EReal × BitVec 32 → EReal × BitVec 32 → EReal × BitVec 32) (i y l : ℕ)
    (hf : ∀ (w : EReal) (k c : ℕ), k < 19 → c < 19 → f (w, BitVec.ofNat 32 k) (logits x i y l c, BitVec.ofNat 32 c)
      = (if logits x i y l c < w then w else logits x i y l c,
        if logits x i y l c < w ∨ (w = logits x i y l c ∧ k < c) then BitVec.ofNat 32 k else BitVec.ofNat 32 c))
    {T : ℕ} (hT : T < 19) (hlo : best (logits x i y l) ≠ ⊥)
    (hfirst : ∀ c, c < T → logits x i y l c < best (logits x i y l) ∨ logits x i y l T < best (logits x i y l)) :
    (Host.argReduce (F := Ideal) (φ := .f32) f x (iotaInDim S8x19x512x512 32 1) ix iy reducesTo_S8x19x512x512_S8x512x512_d1 hu (at3 i y l)).2 ≠ BitVec.ofNat 32 T
      ↔ logits x i y l T < best (logits x i y l) := by
  rw [Ideal.argReduce_eq_reduce2, Host.reduce2_eq_foldl_fiber, hix, hiy]
  exact argmax_ne hf (mem_fiber x i y l) hT hlo hfirst

/-- The second of a pair, at an index. -/
theorem snd_at {α β γ : Type} (p : γ → β) (q : γ → α × β) (h : p = fun j => (q j).2) (j : γ) : p j = (q j).2 := by
  rw [h]

/-- The predicted class of a pixel is the second of the arg-max's pair. -/
theorem predicted_eq (j : S8x512x512.Idx) : predicted x j = (Host.argReduce (F := Ideal) (φ := .f32) (reducer_argmax_f32_i32 (F := Ideal)) x
    (iotaInDim S8x19x512x512 32 1) (constant (F := Ideal) S_ .f32 0xFF800000#32) (constantI S_ 32 0#32) reducesTo_S8x19x512x512_S8x512x512_d1 h_S_ j).2 :=
  snd_at (predicted x) _ rfl j

/-- A pixel is missed exactly when its target's logit is below its largest. -/
theorem predicted_ne (hG : Good x t) (i y l : ℕ) :
    predicted x (at3 i y l) ≠ target t i y l ↔ kpick (logits x i y l) (target t i y l) < ktop (logits x i y l) := by
  obtain ⟨T, hT, hTe, hlo, -, hfirst⟩ := hG i y l
  rw [hTe, kpick_eq _ hT, ktop_eq]
  rw [predicted_eq]
  exact argmax_apply x h_S_ (constant (F := Ideal) S_ .f32 0xFF800000#32) (constantI S_ 32 0#32) constant_bot (fun _ => rfl)
    (reducer_argmax_f32_i32 (F := Ideal)) i y l (reducer_apply (logits x i y l)) hT hlo hfirst

/-- The index of a [8,1,512,512] array's cell. -/
def at1 (i y l : ℕ) : S8x1x512x512.Idx := fun a => match a with
  | ⟨0, _⟩ => ⟨i % 8, Nat.mod_lt _ (by decide)⟩
  | ⟨1, _⟩ => ⟨0, Nat.one_pos⟩
  | ⟨2, _⟩ => ⟨y % 512, Nat.mod_lt _ (by decide)⟩
  | ⟨3, _⟩ => ⟨l % 512, Nat.mod_lt _ (by decide)⟩

/-- A pixel's value spread over a class axis of one. -/
theorem spread_one {α : Type} (p : S8x512x512.Idx → α) (i y l : ℕ) :
    broadcastInDim S8x1x512x512 ![0, 2, 3] bcast_S8x512x512_S8x1x512x512_0_2_3 p (at1 i y l) = p (at3 i y l) :=
  broadcastInDim_apply _ _ p _ _ fun a => by
    match a with
    | ⟨0, _⟩ => rfl
    | ⟨1, _⟩ => rfl
    | ⟨2, _⟩ => rfl

/-- A pixel's value spread over the classes. -/
theorem spread_all {α : Type} (p : S8x1x512x512.Idx → α) (i y l c : ℕ) :
    broadcastInDim S8x19x512x512 ![0, 1, 2, 3] bcast_S8x1x512x512_S8x19x512x512_0_1_2_3 p (at4 i y l c) = p (at1 i y l) :=
  broadcastInDim_apply _ _ p _ _ fun a => by
    match a with
    | ⟨0, _⟩ => rfl
    | ⟨1, _⟩ => rfl
    | ⟨2, _⟩ => rfl
    | ⟨3, _⟩ => rfl

/-- A spread value less, at a logit. -/
theorem less_apply (z : FVec Ideal S8x19x512x512 .f32) (p : FVec Ideal S8x1x512x512 .f32) (i y l c : ℕ) :
    (subf z (broadcastInDim S8x19x512x512 ![0, 1, 2, 3] bcast_S8x1x512x512_S8x19x512x512_0_1_2_3 p) (at4 i y l c) : EReal)
      = (z (at4 i y l c) : EReal) - p (at1 i y l) := by
  rw [← spread_all p i y l c]
  rfl

/-- The larger of a constant and a value, at a pixel. -/
theorem larger_apply (w : BitVec 32) (p : FVec Ideal S8x512x512 .f32) (j : S8x512x512.Idx) :
    (maximumf (broadcastInDim S8x512x512 ![] bcast_S_S8x512x512 (constant (F := Ideal) S_ .f32 w)) p j : EReal) = max (Ideal.ofBits .f32 w) (p j) := rfl

/-- A logit less its pixel's largest. -/
theorem shifted_apply (i y l c : ℕ) : (shifted x (at4 i y l c) : EReal) = logits x i y l c - best (logits x i y l) := by
  unfold shifted
  rw [less_apply, spread_one, larger_apply, ofBits_bot, reduce_max x (constant (F := Ideal) S_ .f32 0xFF800000#32) _ _ constant_bot, max_eq_right bot_le]
  rfl

/-- The logarithm of a spread value, at a pixel. -/
theorem log_apply (p : FVec Ideal S8x512x512 .f32) (i y l : ℕ) :
    (Host.log (broadcastInDim S8x1x512x512 ![0, 2, 3] bcast_S8x512x512_S8x1x512x512_0_2_3 p) (at1 i y l) : EReal) = Ideal.log (p (at3 i y l)) := by
  rw [← spread_one p i y l]
  rfl

/-- The classes' sum at a pixel. -/
theorem classSum_apply (z : FVec Ideal S8x19x512x512 .f32) (w : BitVec 32) (hw : Ideal.ofBits .f32 w = 0) (i y l : ℕ) :
    (Host.reduceAdd z (constant (F := Ideal) S_ .f32 w) reducesTo_S8x19x512x512_S8x512x512_d1 h_S_ (at3 i y l) : EReal)
      = ∑ c ∈ range 19, (z (at4 i y l c) : EReal) := by
  refine (reduce_sum z (Ideal.ofBits .f32 w) reducesTo_S8x19x512x512_S8x512x512_d1 i y l).trans ?_
  rw [hw, zero_add]

/-- The log-softmax of a logit. -/
theorem logSoftmax_apply (i y l c : ℕ) : (logSoftmax x (at4 i y l c) : EReal) = (logits x i y l c - best (logits x i y l))
    - Ideal.log (∑ d ∈ range 19, Ideal.exp (logits x i y l d - best (logits x i y l))) := by
  unfold logSoftmax
  rw [less_apply, log_apply, shifted_apply, classSum_apply _ _ Ideal.ofBits_zero_f32]
  refine congrArg (fun s => _ - Ideal.log s) (sum_congr rfl fun d _ => ?_)
  refine Eq.trans ?_ (congrArg Ideal.exp (shifted_apply x i y l d))
  rfl

/-- A class is not negative, so it is not wrapped. -/
theorem wrap_class {T : ℕ} (hT : T < 19) : Scalar.select (IntOp.cmpi .slt (BitVec.ofNat 32 T) 0#32) (IntOp.addi (BitVec.ofNat 32 T) 19#32) (BitVec.ofNat 32 T)
    = BitVec.ofNat 32 T := by
  interval_cases T <;> rfl

/-- The index of the class axis's index. -/
def at5 (i y l : ℕ) : S8x1x512x512x1.Idx := fun a => match a with
  | ⟨0, _⟩ => ⟨i % 8, Nat.mod_lt _ (by decide)⟩
  | ⟨1, _⟩ => ⟨0, Nat.one_pos⟩
  | ⟨2, _⟩ => ⟨y % 512, Nat.mod_lt _ (by decide)⟩
  | ⟨3, _⟩ => ⟨l % 512, Nat.mod_lt _ (by decide)⟩
  | ⟨4, _⟩ => ⟨0, Nat.one_pos⟩

/-- The class axis's index is the target. -/
theorem along_apply (hG : Good x t) (i y l : ℕ) : along t (at5 i y l) = target t i y l := by
  obtain ⟨T, hT, hTe, -⟩ := hG i y l
  unfold along
  rw [shapeCast_apply _ _ (at5 i y l) (at1 i y l) (by
    rewrite [Shape.rowMajor_val_four, Shape.rowMajor_val_five]
    show ((i % 8 * 1 + 0) * 512 + y % 512) * 512 + l % 512 = (((i % 8 * 1 + 0) * 512 + y % 512) * 512 + l % 512) * 1 + 0
    omega)]
  show Scalar.select (IntOp.cmpi .slt (broadcastInDim S8x1x512x512 ![0, 2, 3] bcast_S8x512x512_S8x1x512x512_0_2_3 t (at1 i y l)) 0#32)
    (IntOp.addi (broadcastInDim S8x1x512x512 ![0, 2, 3] bcast_S8x512x512_S8x1x512x512_0_2_3 t (at1 i y l)) 19#32)
    (broadcastInDim S8x1x512x512 ![0, 2, 3] bcast_S8x512x512_S8x1x512x512_0_2_3 t (at1 i y l)) = _
  rw [spread_one, show t (at3 i y l) = target t i y l from rfl, hTe, wrap_class hT]

end Cert.ReferenceIdeal.Loss

end
-- ==== Proof.Flat.lean ====
/- Sums over the pixels in one row, and over a pixel array's indices, as sums over the pixels. -/
module

public import proofs.«01_k».proof.Proof.Fiber

@[expose] public section

noncomputable section

namespace Cert.Loss

open Idealize.ShloMosaic Finset

variable {M : Type} [AddCommMonoid M]

/-- A sum over a row of pixels is the sum over the pixels. -/
theorem sum_row (G : ℕ → ℕ → ℕ → M) (hG : ∀ i y l i' y' l', i % 8 = i' % 8 → y % 512 = y' % 512 → l % 512 = l' % 512 → G i y l = G i' y' l') :
    ∑ n ∈ range 2097152, G (n / 262144) (n / 512) n = pixels G := by
  rw [show (2097152 : ℕ) = 262144 * 8 from rfl, sum_blocks _ 262144 8]
  refine sum_congr rfl fun i hi => ?_
  rw [show range 262144 = range (512 * 512) from rfl, sum_blocks _ 512 512]
  refine sum_congr rfl fun y hy => sum_congr rfl fun l hl => ?_
  have hi' : i < 8 := mem_range.mp hi
  have hy' : y < 512 := mem_range.mp hy
  have hl' : l < 512 := mem_range.mp hl
  refine hG _ _ _ _ _ _ ?_ ?_ ?_ <;> omega

/-- A sum over a row's indices is a sum over its positions. -/
theorem sum_idx (g : (⟨1, ![2097152]⟩ : Shape).Idx → M) (G : ℕ → M) (h : ∀ k, g k = G (k 0).val) : ∑ k, g k = ∑ n ∈ range 2097152, G n := by
  refine sum_bij' (fun k _ => (k 0).val) (fun n _ => (fun a => match a with | ⟨0, _⟩ => ⟨n % 2097152, Nat.mod_lt _ (by decide)⟩)) ?_ ?_ ?_ ?_ ?_
  · intro k _
    exact mem_range.mpr (k 0).isLt
  · intro n _
    exact mem_univ _
  · intro k _
    funext a
    match a with
    | ⟨0, _⟩ => exact Fin.ext (Nat.mod_eq_of_lt (k 0).isLt)
  · intro n hn
    exact Nat.mod_eq_of_lt (mem_range.mp hn)
  · intro k _
    exact h k

/-- Equal coordinates up to the extents give the same pixel. -/
theorem at3_congr {i y l i' y' l' : ℕ} (hi : i % 8 = i' % 8) (hy : y % 512 = y' % 512) (hl : l % 512 = l' % 512) : at3 i y l = at3 i' y' l' := by
  funext a
  match a with
  | ⟨0, _⟩ => exact Fin.ext hi
  | ⟨1, _⟩ => exact Fin.ext hy
  | ⟨2, _⟩ => exact Fin.ext hl

/-- Equal coordinates up to the extents give the same logit. -/
theorem at4_congr {i y l i' y' l' : ℕ} (c : ℕ) (hi : i % 8 = i' % 8) (hy : y % 512 = y' % 512) (hl : l % 512 = l' % 512) : at4 i y l c = at4 i' y' l' c := by
  funext a
  match a with
  | ⟨0, _⟩ => exact Fin.ext hi
  | ⟨1, _⟩ => rfl
  | ⟨2, _⟩ => exact Fin.ext hy
  | ⟨3, _⟩ => exact Fin.ext hl

/-- A sum over a pixel array's indices is the sum over the pixels. -/
theorem sum_at3 (f : (⟨3, ![8, 512, 512]⟩ : Shape).Idx → M) : ∑ j, f j = pixels fun i y l => f (at3 i y l) := by
  unfold pixels
  have e : ∀ i, ∑ y ∈ range 512, ∑ l ∈ range 512, f (at3 i y l) = ∑ p ∈ range 512 ×ˢ range 512, f (at3 i p.1 p.2) := fun i =>
    (sum_product' (range 512) (range 512) fun y l => f (at3 i y l)).symm
  rw [sum_congr rfl fun i _ => e i, ← sum_product' (range 8) (range 512 ×ˢ range 512) fun i p => f (at3 i p.1 p.2)]
  refine sum_bij' (fun j _ => ((j 0).val, (j 1).val, (j 2).val)) (fun p _ => at3 p.1 p.2.1 p.2.2) ?_ ?_ ?_ ?_ ?_
  · intro j _
    exact mem_product.mpr ⟨mem_range.mpr (j 0).isLt, mem_product.mpr ⟨mem_range.mpr (j 1).isLt, mem_range.mpr (j 2).isLt⟩⟩
  · intro p _
    exact mem_univ _
  · intro j _
    exact (at3_of j).symm
  · intro p hp
    obtain ⟨h1, h2⟩ := mem_product.mp hp
    obtain ⟨h2, h3⟩ := mem_product.mp h2
    exact Prod.ext (Nat.mod_eq_of_lt (mem_range.mp h1)) (Prod.ext (Nat.mod_eq_of_lt (mem_range.mp h2)) (Nat.mod_eq_of_lt (mem_range.mp h3)))
  · intro j _
    exact congrArg f (at3_of j)

/-- Adding one for each that holds counts them. -/
theorem foldl_count {w : ℕ} {ι : Type} (p : ι → Prop) [DecidablePred p] : ∀ (L : List ι) (m : ℕ),
    L.foldl (fun a n => if p n then IntOp.addi a (BitVec.ofNat w 1) else a) (BitVec.ofNat w m) = BitVec.ofNat w (m + (L.map fun n => if p n then 1 else 0).sum)
  | [], m => by rw [List.map_nil, List.sum_nil]; rfl
  | a :: L, m => by
    rw [List.foldl_cons, List.map_cons, List.sum_cons]
    by_cases h : p a
    · rw [if_pos h, if_pos h, show IntOp.addi (BitVec.ofNat w m) (BitVec.ofNat w 1) = BitVec.ofNat w (m + 1) from (BitVec.ofNat_add m 1).symm,
        foldl_count p L (m + 1), Nat.add_assoc]
    · rw [if_neg h, if_neg h, foldl_count p L m, Nat.zero_add]

/-- At most one a pixel is at most the number of pixels. -/
theorem pixels_le (G : ℕ → ℕ → ℕ → ℕ) (hG : ∀ i y l, G i y l ≤ 1) : pixels G ≤ 2097152 := by
  unfold pixels
  calc _ ≤ ∑ i ∈ range 8, ∑ y ∈ range 512, ∑ l ∈ range 512, 1 := sum_le_sum fun i _ => sum_le_sum fun y _ => sum_le_sum fun l _ => hG i y l
    _ = 2097152 := by simp only [sum_const, card_range, smul_eq_mul]

end Cert.Loss

end
-- ==== Proof.RefCount.lean ====
/- The reference's counts over the extended reals: each class's pixels, its missed pixels, its weight. -/
module

public import proofs.«01_k».proof.Proof.RefPixel
public import proofs.«01_k».proof.Proof.Flat
public import Idealize.ShloMosaic.Lib.Routing.OpsPair

@[expose] public section

noncomputable section

namespace Cert.ReferenceIdeal.Loss

open Cert.ReferenceIdeal Cert.ReferenceIdeal.Gen Idealize.ShloMosaic Cert.Loss Finset

variable (x : FVec Ideal S8x19x512x512 .f32) (t : IVec S8x512x512 32)

/-- A row of pixels reads the pixel its position is of. -/
theorem row_apply {α : Type} (p : S8x512x512.Idx → α) (k : S2097152.Idx) :
    shapeCast S2097152 p shapeCasts_S8x512x512_S2097152 k = p (at3 ((k 0).val / 262144) ((k 0).val / 512) (k 0).val) :=
  shapeCast_apply _ _ _ _ (by
    have hk : (k 0).val < 2097152 := (k 0).isLt
    rewrite [Shape.rowMajor_val_three, Shape.rowMajor_val_one]
    show ((k 0).val / 262144 % 8 * 512 + (k 0).val / 512 % 512) * 512 + (k 0).val % 512 = (k 0).val
    omega)

/-- A class is its own slot. -/
theorem slot_class {T : ℕ} (hT : T < 19) : Scalar.select (IntOp.cmpi .slt (IntOp.maxsi 0#32 (BitVec.ofNat 32 T)) 0#32)
    (IntOp.addi (IntOp.maxsi 0#32 (BitVec.ofNat 32 T)) 19#32) (IntOp.maxsi 0#32 (BitVec.ofNat 32 T)) = BitVec.ofNat 32 T := by
  interval_cases T <;> rfl

/-- The index of a one-column array. -/
def inColumn (k : S2097152.Idx) : S2097152x1.Idx := fun a => match a with
  | ⟨0, _⟩ => k 0
  | ⟨1, _⟩ => ⟨0, Nat.one_pos⟩

/-- A row spread to one column. -/
theorem column_apply {α : Type} (p : S2097152.Idx → α) (k : S2097152.Idx) :
    broadcastInDim S2097152x1 ![0] bcast_S2097152_S2097152x1_0 p (inColumn k) = p k :=
  broadcastInDim_apply _ _ p _ _ fun a => by
    match a with
    | ⟨0, _⟩ => rfl

/-- A pixel's slot is its target. -/
theorem slot_apply (hG : Good x t) (k : S2097152.Idx) :
    slot t (inColumn k) = target t ((k 0).val / 262144) ((k 0).val / 512) (k 0).val := by
  obtain ⟨T, hT, hTe, -⟩ := hG ((k 0).val / 262144) ((k 0).val / 512) (k 0).val
  unfold slot
  rw [column_apply]
  unfold clipped
  show Scalar.select (IntOp.cmpi .slt (IntOp.maxsi 0#32 (shapeCast S2097152 t shapeCasts_S8x512x512_S2097152 k)) 0#32)
    (IntOp.addi (IntOp.maxsi 0#32 (shapeCast S2097152 t shapeCasts_S8x512x512_S2097152 k)) 19#32)
    (IntOp.maxsi 0#32 (shapeCast S2097152 t shapeCasts_S8x512x512_S2097152 k)) = _
  rw [row_apply, show t (at3 ((k 0).val / 262144) ((k 0).val / 512) (k 0).val) = _ from hTe, slot_class hT, hTe]

/-- The dimension numbers of the scatter into the classes. -/
abbrev classScatter : ScatterDims S19 S2097152x1 S2097152 := scatter_S19_S2097152x1_S2097152_n_0_0_1

/-- An update's index is read at its place in the column. -/
theorem classScatter_siIdx (k : S2097152.Idx) (c : Fin classScatter.scatterDimsToOperandDims.length) : classScatter.siIdx k c = inColumn k := by
  funext b
  match b with
  | ⟨0, _⟩ => rfl
  | ⟨1, _⟩ => exact Subsingleton.elim (α := Fin 1) _ _

/-- The classes are the axis scattered to. -/
theorem classScatter_started : ∀ a : Fin 1, a ∈ classScatter.scatterDimsToOperandDims := by decide

/-- No window axis. -/
theorem classScatter_kept : ∀ a : Fin 1, a ∉ classScatter.sKept := by decide

/-- A class's index. -/
def at19 (c : ℕ) : S19.Idx := fun a => match a with
  | ⟨0, _⟩ => ⟨c % 19, Nat.mod_lt _ (by decide)⟩

/-- An update lands at the class its slot names. -/
theorem lands_iff (idx : IVec S2097152x1 32) (k : S2097152.Idx) {T c : ℕ} (hT : T < 19) (hc : c < 19) (h : idx (inColumn k) = BitVec.ofNat 32 T) :
    classScatter.resultIdx? k idx = some (at19 c) ↔ BitVec.ofNat 32 T = BitVec.ofNat 32 c := by
  rw [Routing.resultIdx?_eq_some]
  have hv : (BitVec.ofNat 32 T).toInt = (T : ℤ) := by interval_cases T <;> rfl
  have hb : BitVec.ofNat 32 T = BitVec.ofNat 32 c ↔ T = c := by
    constructor
    · intro e
      have := congrArg BitVec.toNat e
      rw [BitVec.toNat_ofNat, BitVec.toNat_ofNat] at this
      omega
    · intro e
      rw [e]
  have hs : ∀ a, classScatter.start k idx a + (classScatter.window k a : ℤ) = (T : ℤ) := fun a => by
    unfold ScatterDims.start ScatterDims.window
    rw [dif_pos (classScatter_started a), dif_neg (classScatter_kept a), classScatter_siIdx, h, hv]
    exact add_zero _
  have ha : ∀ a : Fin 1, ((at19 c a).val : ℤ) = (c : ℤ) := fun a => by
    match a with
    | ⟨0, _⟩ => exact congrArg Nat.cast (Nat.mod_eq_of_lt hc)
  rw [hb]
  constructor
  · intro h
    have := h (0 : Fin 1)
    rw [hs, ha] at this
    exact_mod_cast this
  · intro e a
    rw [hs, ha, e]

/-- A pixel of the row lands at class `c` exactly when its target is `c`. -/
theorem slot_iff (hG : Good x t) {c : ℕ} (hc : c < 19) (k : S2097152.Idx) :
    classScatter.resultIdx? k (slot t) = some (at19 c) ↔ target t ((k 0).val / 262144) ((k 0).val / 512) (k 0).val = BitVec.ofNat 32 c := by
  obtain ⟨T, hT, hTe, -⟩ := hG ((k 0).val / 262144) ((k 0).val / 512) (k 0).val
  rw [lands_iff (slot t) k hT hc ((slot_apply x t hG k).trans hTe), hTe]

open Classical in
/-- A class counts the pixels whose target it is. -/
theorem counts_apply (hG : Good x t) {c : ℕ} (hc : c < 19) : counts t (at19 c) = BitVec.ofNat 32 (countOf t c) := by
  unfold counts
  rw [Routing.scatter_at]
  refine (foldl_count (w := 32) (fun n => classScatter.resultIdx? (S2097152.rowMajor.symm n) (slot t) = some (at19 c)) (List.finRange S2097152.numel) 0).trans ?_
  rw [Nat.zero_add, ← Fin.sum_univ_def,
    Equiv.sum_comp S2097152.rowMajor.symm (fun k => if classScatter.resultIdx? k (slot t) = some (at19 c) then 1 else 0)]
  refine congrArg (BitVec.ofNat 32) ?_
  refine (sum_idx _ (fun n => isOf (target t (n / 262144) (n / 512) n) c) fun k => ?_).trans ?_
  · unfold isOf
    exact if_congr (slot_iff x t hG hc k) rfl rfl
  · refine sum_row (fun i y l => isOf (target t i y l) c) fun i y l i' y' l' hi hy hl => ?_
    unfold target
    rw [at3_congr hi hy hl]

end Cert.ReferenceIdeal.Loss

end
-- ==== Proof.RefWeight.lean ====
/- The reference's class weights over the extended reals. -/
module

public import proofs.«01_k».proof.Proof.RefCount

@[expose] public section

noncomputable section

namespace Cert.ReferenceIdeal.Loss

open Cert.ReferenceIdeal Cert.ReferenceIdeal.Gen Idealize.ShloMosaic Cert.Loss Finset

variable (x : FVec Ideal S8x19x512x512 .f32) (t : IVec S8x512x512 32)

open Classical in
/-- The scattered sum at a class. -/
theorem scatterAdd_apply (z : FVec Ideal S19 .f32) (idx : IVec S2097152x1 32) (u : FVec Ideal S2097152 .f32) (c : S19.Idx) :
    (Host.scatterAdd classScatter z idx u c : EReal) = (z c : EReal) + ∑ k, if classScatter.resultIdx? k idx = some c then (u k : EReal) else 0 := by
  refine Eq.trans (b := (z c : EReal) + ∑ k ∈ univ.filter (fun k => classScatter.resultIdx? k idx = some c), (u k : EReal)) rfl ?_
  rw [sum_filter]

/-- A constant spread over the classes. -/
theorem spread_const (w : BitVec 32) (c : S19.Idx) :
    (broadcastInDim S19 ![] bcast_S_S19 (constant (F := Ideal) S_ .f32 w) c : EReal) = Ideal.ofBits .f32 w := rfl

/-- Whether two words differ, as a number. -/
theorem differ_apply (a b : BitVec 32) : (((IntOp.cmpi .ne a b).toNat : ℝ) : EReal) = (((if a ≠ b then 1 else 0 : ℕ) : ℝ) : EReal) := by
  show (((BitVec.ofBool (a != b)).toNat : ℝ) : EReal) = _
  by_cases h : a = b
  · rw [if_neg (not_not.mpr h), h, bne_self_eq_false]
    rfl
  · rw [if_pos h, bne_iff_ne.mpr h]
    rfl

/-- What a pixel of the row adds to its class's missed pixels. -/
theorem missed_row (k : S2097152.Idx) :
    (uitofp (F := Ideal) .f32 (shapeCast S2097152 (cmpi .ne (predicted x) t) shapeCasts_S8x512x512_S2097152) k : EReal)
      = (((if predicted x (at3 ((k 0).val / 262144) ((k 0).val / 512) (k 0).val) ≠ target t ((k 0).val / 262144) ((k 0).val / 512) (k 0).val then 1 else 0 : ℕ) : ℝ) : EReal) := by
  refine Eq.trans ?_ (differ_apply _ _)
  exact congrArg (fun b : BitVec 1 => ((b.toNat : ℝ) : EReal)) (row_apply (cmpi .ne (predicted x) t) k)

/-- A class's missed pixels. -/
theorem missed_apply (hG : Good x t) {c : ℕ} (hc : c < 19) : (missed x t (at19 c) : EReal) = ((missedOf x t c : ℝ) : EReal) := by
  classical
  unfold missed
  rw [scatterAdd_apply, spread_const, Ideal.ofBits_zero_f32, zero_add]
  refine Eq.trans (sum_idx _ (fun n => ((missOf (logits x (n / 262144) (n / 512) n) (target t (n / 262144) (n / 512) n) c : ℝ) : EReal)) fun k => ?_) ?_
  · rw [missed_row]
    unfold missOf
    by_cases h : target t ((k 0).val / 262144) ((k 0).val / 512) (k 0).val = BitVec.ofNat 32 c
    · rw [if_pos ((slot_iff x t hG hc k).mpr h)]
      refine congrArg (fun n : ℕ => ((n : ℝ) : EReal)) (if_congr ?_ rfl rfl)
      rw [predicted_ne x t hG]
      exact ⟨fun e => ⟨h, e⟩, fun e => e.2⟩
    · rw [if_neg fun e => h ((slot_iff x t hG hc k).mp e), if_neg fun e => h e.1]
      simp
  · rw [← coe_sum, ← Nat.cast_sum]
    refine congrArg (fun n : ℕ => ((n : ℝ) : EReal)) (sum_row (fun i y l => missOf (logits x i y l) (target t i y l) c) fun i y l i' y' l' hi hy hl => ?_)
    unfold target logits
    rw [at3_congr hi hy hl, funext fun d => congrArg x (at4_congr d hi hy hl)]

/-- The word of one. -/
theorem ofBits_one : Ideal.ofBits .f32 0x3F800000#32 = 1 := by
  show Ideal.ieee 8 23 0x3F800000#32 = 1
  simp [Ideal.ieee, -EReal.coe_mul]
  norm_num

/-- A count as a word, or one where it is none. -/
theorem orOne_word {n : ℕ} (hn : n ≤ 2097152) :
    Scalar.select (IntOp.cmpi .sgt (BitVec.ofNat 32 n) 0#32) (((BitVec.ofNat 32 n).toInt : ℝ) : EReal) 1 = orOneN n := by
  have hv : (BitVec.ofNat 32 n).toInt = (n : ℤ) := by
    rw [BitVec.toInt_eq_toNat_cond, BitVec.toNat_ofNat, if_pos (by omega)]
    omega
  have hs : IntOp.cmpi .sgt (BitVec.ofNat 32 n) 0#32 = BitVec.ofBool (decide (0 < n)) := by
    show BitVec.ofBool (decide ((0#32).toInt < (BitVec.ofNat 32 n).toInt)) = _
    rw [hv]
    exact congrArg BitVec.ofBool (decide_eq_decide.mpr (Nat.cast_pos (α := ℤ)))
  rw [hs, hv]
  unfold Scalar.select orOneN
  by_cases h : 0 < n
  · rw [if_pos h, decide_eq_true h]
    rfl
  · rw [if_neg h, decide_eq_false h]
    rfl

/-- A count, or one where it is none. -/
theorem orOne_real (n : ℕ) : Scalar.select (Ideal.cmp .ogt ((n : ℝ) : EReal) 0) ((n : ℝ) : EReal) 1 = orOneN n := by
  have hs : Ideal.cmp .ogt ((n : ℝ) : EReal) 0 = BitVec.ofBool (decide (0 < n)) := by
    refine congrArg BitVec.ofBool (decide_eq_decide.mpr ?_)
    rw [← EReal.coe_zero, EReal.coe_lt_coe_iff, Nat.cast_pos]
  rw [hs]
  unfold Scalar.select orOneN
  by_cases h : 0 < n
  · rw [if_pos h, decide_eq_true h]
    rfl
  · rw [if_neg h, decide_eq_false h]
    rfl

/-- A class's divisor but for the small constant. -/
theorem support_apply (hG : Good x t) {c : ℕ} (hc : c < 19) : (support (F := Ideal) t (at19 c) : EReal) = orOneN (countOf t c) := by
  have hn : countOf t c ≤ 2097152 := pixels_le _ fun i y l => by
    unfold isOf
    split <;> omega
  rw [← orOne_word hn, ← counts_apply x t hG hc, ← ofBits_one]
  rfl

/-- A choice by a comparison with a constant, between a value and a constant, at a class. -/
theorem choose_apply (z : FVec Ideal S19 .f32) (v w : BitVec 32) (c : S19.Idx) :
    (select (cmpf .ogt z (broadcastInDim S19 ![] bcast_S_S19 (constant (F := Ideal) S_ .f32 v))) z
        (broadcastInDim S19 ![] bcast_S_S19 (constant (F := Ideal) S_ .f32 w)) c : EReal)
      = Scalar.select (Ideal.cmp .ogt (z c) (Ideal.ofBits .f32 v)) (z c : EReal) (Ideal.ofBits .f32 w) := rfl

/-- A quotient by a sum with a constant, at a class. -/
theorem over_apply (a b : FVec Ideal S19 .f32) (w : BitVec 32) (c : S19.Idx) :
    (Host.divf a (addf b (broadcastInDim S19 ![] bcast_S_S19 (constant (F := Ideal) S_ .f32 w))) c : EReal)
      = Ideal.div (a c) ((b c : EReal) + Ideal.ofBits .f32 w) := rfl

/-- A class's weight. -/
theorem weight_apply (hG : Good x t) {c : ℕ} (hc : c < 19) : (weight x t (at19 c) : EReal) = weightOf (countOf t c) (missedOf x t c) := by
  unfold weight
  rw [over_apply, choose_apply, support_apply x t hG hc, missed_apply x t hG hc, Ideal.ofBits_zero_f32, ofBits_one, orOne_real]
  rfl

end Cert.ReferenceIdeal.Loss

end
-- ==== Proof.RefLoss.lean ====
/- The reference's cross entropy of a pixel, over the extended reals: the log-softmax taken at the target. -/
module

public import proofs.«01_k».proof.Proof.RefPixel

@[expose] public section

noncomputable section

namespace Cert.ReferenceIdeal.Loss

open Cert.ReferenceIdeal Cert.ReferenceIdeal.Gen Idealize.ShloMosaic Cert.Loss Finset

variable (x : FVec Ideal S8x19x512x512 .f32) (t : IVec S8x512x512 32)

/-- The [8,1,512,512,1] index of given coordinates. -/
theorem at5_of (k : S8x1x512x512x1.Idx) : k = at5 (k 0).val (k 2).val (k 3).val := by
  funext a
  match a with
  | ⟨0, _⟩ => exact Fin.ext (Nat.mod_eq_of_lt (k 0).isLt).symm
  | ⟨1, _⟩ => exact Subsingleton.elim (α := Fin 1) _ _
  | ⟨2, _⟩ => exact Fin.ext (Nat.mod_eq_of_lt (k 2).isLt).symm
  | ⟨3, _⟩ => exact Fin.ext (Nat.mod_eq_of_lt (k 3).isLt).symm
  | ⟨4, _⟩ => exact Subsingleton.elim (α := Fin 1) _ _

/-- Ones and-ed together are one. -/
theorem foldl_ones {ι : Type} (L : List ι) (f : ι → BitVec 1) (hf : ∀ k, f k = 1#1) :
    L.foldl (fun a n => IntOp.andi a (f n)) 1#1 = 1#1 := by
  induction L with
  | nil => rfl
  | cons a L ih => rw [List.foldl_cons, hf a, show IntOp.andi 1#1 1#1 = 1#1 from rfl, ih]

/-- A class lies between the first and the last. -/
theorem within_class {T : ℕ} (hT : T < 19) :
    IntOp.andi (IntOp.cmpi .sge (BitVec.ofNat 32 T) 0#32) (IntOp.cmpi .sle (BitVec.ofNat 32 T) 18#32) = 1#1 := by
  interval_cases T <;> rfl

/-- Every target lies in range. -/
theorem inRange_apply (hG : Good x t) (j : S8x1x512x512.Idx) : inRange t j = 1#1 := by
  unfold inRange
  rw [Host.reduce_eq_foldl]
  refine foldl_ones _ _ fun k => ?_
  obtain ⟨T, hT, hTe, -⟩ := hG (k 0).val (k 2).val (k 3).val
  show IntOp.andi (IntOp.cmpi .sge (along t k) 0#32) (IntOp.cmpi .sle (along t k) 18#32) = 1#1
  rw [at5_of k, along_apply x t hG, hTe, within_class hT]

/-- The dimension numbers of the gather along the class axis. -/
abbrev classGather : GatherDims S8x19x512x512 S8x1x512x512x1 S8x1x512x512 := gather_S8x19x512x512_S8x1x512x512x1_S8x1x512x512_n_1_023_023_1_4_1111

/-- The start index of a pixel is read at its cell. -/
theorem classGather_siIdx (i y l : ℕ) (c : Fin classGather.startIndexMap.length) : classGather.siIdx (at1 i y l) c = at5 i y l := by
  funext b
  match b with
  | ⟨0, _⟩ => rfl
  | ⟨1, _⟩ => rfl
  | ⟨2, _⟩ => rfl
  | ⟨3, _⟩ => rfl
  | ⟨4, _⟩ => exact Subsingleton.elim (α := Fin 1) _ _

/-- No axis of the logits is an offset axis. -/
theorem classGather_kept : ∀ a : Fin 4, a ∉ classGather.sKept := by decide

/-- Every axis but the classes' is a batching axis. -/
theorem classGather_batching : ∀ a : Fin 4, a ≠ 1 → a ∈ classGather.operandBatchingDims := by decide

/-- The class axis is no batching axis. -/
theorem classGather_class : (1 : Fin 4) ∉ classGather.operandBatchingDims := by decide

/-- The class axis is the one started. -/
theorem classGather_started : (1 : Fin 4) ∈ classGather.startIndexMap := by decide

/-- The batching coordinates are the pixel's. -/
theorem classGather_batch (i y l T : ℕ) : ∀ a : Fin 4, a ≠ 1 → classGather.batchCoord (at1 i y l) a = (at4 i y l T a).val
  | 0, _ => rfl
  | 1, h => absurd rfl h
  | 2, _ => rfl
  | 3, _ => rfl

/-- The log-softmax gathered at a pixel is the one at its target. -/
theorem gather_logits {α : Type} (z : S8x19x512x512.Idx → α) (idx : IVec S8x1x512x512x1 32) (i y l T : ℕ) (hT : T < 19)
    (h : idx (at5 i y l) = BitVec.ofNat 32 T) : Host.gather classGather z idx (at1 i y l) = z (at4 i y l T) := by
  have hv : min (BitVec.ofNat 32 T).toInt.toNat 18 = T % 19 := by interval_cases T <;> rfl
  unfold Host.gather
  refine congrArg z (funext fun a => Fin.ext ?_)
  show classGather.start (at1 i y l) idx a + classGather.batchCoord (at1 i y l) a + classGather.offCoord (at1 i y l) a = _
  rw [GatherDims.offCoord_eq_zero _ _ _ (classGather_kept a), Nat.add_zero]
  by_cases ha : a = (1 : Fin 4)
  · subst ha
    rw [GatherDims.batchCoord_eq_zero _ _ _ classGather_class, Nat.add_zero]
    unfold GatherDims.start
    rw [dif_pos classGather_started, classGather_siIdx, h]
    exact hv
  · rw [GatherDims.start_batching _ _ _ _ (classGather_batching a ha), classGather_batch i y l T a ha, Nat.zero_add]

/-- A choice by a one is the first. -/
theorem select_one {s : Shape} {α : Type} (b : IVec s 1) (p q : s.Idx → α) (j : s.Idx) (h : b j = 1#1) : select b p q j = p j := by
  show Scalar.select (b j) (p j) (q j) = _
  rw [h]
  rfl

/-- The loss of a pixel is its cross entropy. -/
theorem loss_apply (hG : Good x t) (i y l : ℕ) : (loss x t (at3 i y l) : EReal) = ce (logits x i y l) (target t i y l) := by
  obtain ⟨T, hT, hTe, hlo, hhi, -⟩ := hG i y l
  unfold loss taken
  show -(shapeCast S8x512x512 _ shapeCasts_S8x1x512x512_S8x512x512 (at3 i y l) : EReal) = _
  rw [shapeCast_apply _ _ (at3 i y l) (at1 i y l) (by
    rewrite [Shape.rowMajor_val_four, Shape.rowMajor_val_three]
    show ((i % 8 * 1 + 0) * 512 + y % 512) * 512 + l % 512 = (i % 8 * 512 + y % 512) * 512 + l % 512
    omega), select_one _ _ _ _ (inRange_apply x t hG _), gather_logits _ _ i y l T hT ((along_apply x t hG i y l).trans hTe), logSoftmax_apply, hTe]
  exact ce_eq _ hlo hT hhi

end Cert.ReferenceIdeal.Loss

end
-- ==== Proof.RefMean.lean ====
/- The reference's result over the extended reals: the mean of the pixels' cross entropies, each times its class's weight. -/
module

public import proofs.«01_k».proof.Proof.RefWeight
public import proofs.«01_k».proof.Proof.RefLoss

@[expose] public section

noncomputable section

namespace Cert.ReferenceIdeal.Loss

open Cert.ReferenceIdeal Cert.ReferenceIdeal.Gen Idealize.ShloMosaic Cert.Loss Finset

variable (x : FVec Ideal S8x19x512x512 .f32) (t : IVec S8x512x512 32)

/-- The index of a pixel's weight index. -/
def at31 (i y l : ℕ) : S8x512x512x1.Idx := fun a => match a with
  | ⟨0, _⟩ => ⟨i % 8, Nat.mod_lt _ (by decide)⟩
  | ⟨1, _⟩ => ⟨y % 512, Nat.mod_lt _ (by decide)⟩
  | ⟨2, _⟩ => ⟨l % 512, Nat.mod_lt _ (by decide)⟩
  | ⟨3, _⟩ => ⟨0, Nat.one_pos⟩

/-- A pixel's value over one more axis. -/
theorem spread_last {α : Type} (p : S8x512x512.Idx → α) (i y l : ℕ) :
    broadcastInDim S8x512x512x1 ![0, 1, 2] bcast_S8x512x512_S8x512x512x1_0_1_2 p (at31 i y l) = p (at3 i y l) :=
  broadcastInDim_apply _ _ p _ _ fun a => by
    match a with
    | ⟨0, _⟩ => rfl
    | ⟨1, _⟩ => rfl
    | ⟨2, _⟩ => rfl

/-- A pixel's weight index is its target. -/
theorem weightAt_apply (hG : Good x t) (i y l : ℕ) : weightAt t (at31 i y l) = target t i y l := by
  obtain ⟨T, hT, hTe, -⟩ := hG i y l
  unfold weightAt
  rw [spread_last]
  show Scalar.select (IntOp.cmpi .slt (target t i y l) 0#32) (IntOp.addi (target t i y l) 19#32) (target t i y l) = _
  rw [hTe, wrap_class hT]

/-- The dimension numbers of the gather of the weights. -/
abbrev weightGather : GatherDims S19 S8x512x512x1 S8x512x512 := gather_S19_S8x512x512x1_S8x512x512_n_0_n_n_0_3_1

/-- The start index of a pixel is read at its cell. -/
theorem weightGather_siIdx (i y l : ℕ) (c : Fin weightGather.startIndexMap.length) : weightGather.siIdx (at3 i y l) c = at31 i y l := by
  funext b
  match b with
  | ⟨0, _⟩ => rfl
  | ⟨1, _⟩ => rfl
  | ⟨2, _⟩ => rfl
  | ⟨3, _⟩ => exact Subsingleton.elim (α := Fin 1) _ _

/-- The weights' axis is no offset axis. -/
theorem weightGather_kept : ∀ a : Fin 1, a ∉ weightGather.sKept := by decide

/-- Nor a batching axis. -/
theorem weightGather_batching : ∀ a : Fin 1, a ∉ weightGather.operandBatchingDims := by decide

/-- It is the one started. -/
theorem weightGather_started : ∀ a : Fin 1, a ∈ weightGather.startIndexMap := by decide

/-- The weight gathered at a pixel is its target's. -/
theorem gather_weight {α : Type} (z : S19.Idx → α) (idx : IVec S8x512x512x1 32) (i y l T : ℕ) (hT : T < 19)
    (h : idx (at31 i y l) = BitVec.ofNat 32 T) : Host.gather weightGather z idx (at3 i y l) = z (at19 T) := by
  have hv : min (BitVec.ofNat 32 T).toInt.toNat 18 = T % 19 := by interval_cases T <;> rfl
  unfold Host.gather
  refine congrArg z (funext fun a => Fin.ext ?_)
  show weightGather.start (at3 i y l) idx a + weightGather.batchCoord (at3 i y l) a + weightGather.offCoord (at3 i y l) a = _
  rw [GatherDims.offCoord_eq_zero _ _ _ (weightGather_kept a), GatherDims.batchCoord_eq_zero _ _ _ (weightGather_batching a)]
  unfold GatherDims.start
  rw [dif_pos (weightGather_started a), weightGather_siIdx, h]
  have ha : a = (0 : Fin 1) := Subsingleton.elim (α := Fin 1) _ _
  subst ha
  exact hv

/-- The mean of an array of pixels. -/
theorem mean_apply (z : FVec Ideal S8x512x512 .f32) (v w : BitVec 32) (hv : Ideal.ofBits .f32 v = 0) (j : S_.Idx) :
    (Host.divf (Host.reduceAdd z (constant (F := Ideal) S_ .f32 v) reducesTo_S8x512x512_S_d0_1_2 h_S_) (constant (F := Ideal) S_ .f32 w) j : EReal)
      = Ideal.div (pixels fun i y l => (z (at3 i y l) : EReal)) (Ideal.ofBits .f32 w) := by
  refine congrArg (fun s : EReal => Ideal.div s (Ideal.ofBits .f32 w)) ?_
  refine (Ideal.hostReduceAdd_total reducesTo_S8x512x512_S_d0_1_2 (fun b => b.elim0) z (Ideal.ofBits .f32 v) j).trans ?_
  rw [hv, zero_add]
  exact sum_at3 _

/-- A product of two arrays, at a pixel where each is known. -/
theorem product_apply (p q : FVec Ideal S8x512x512 .f32) (j : S8x512x512.Idx) {a b : EReal} (ha : p j = a) (hb : q j = b) :
    (mulf p q j : EReal) = a * b := by
  rw [← ha, ← hb]
  rfl

/-- A mean of products each known at every pixel. -/
theorem mean_products (p q : FVec Ideal S8x512x512 .f32) (v w : BitVec 32) (hv : Ideal.ofBits .f32 v = 0) (j : S_.Idx) {A B : ℕ → ℕ → ℕ → EReal}
    (hA : ∀ i y l, p (at3 i y l) = A i y l) (hB : ∀ i y l, q (at3 i y l) = B i y l) :
    (Host.divf (Host.reduceAdd (mulf p q) (constant (F := Ideal) S_ .f32 v) reducesTo_S8x512x512_S_d0_1_2 h_S_) (constant (F := Ideal) S_ .f32 w) j : EReal)
      = Ideal.div (pixels fun i y l => A i y l * B i y l) (Ideal.ofBits .f32 w) := by
  rw [mean_apply _ _ _ hv]
  have e : (fun i y l => (mulf p q (at3 i y l) : EReal)) = fun i y l => A i y l * B i y l :=
    funext fun i => funext fun y => funext fun l => product_apply p q _ (hA i y l) (hB i y l)
  rw [e]

/-- The weight gathered at a pixel. -/
theorem pixelWeight (hG : Good x t) (i y l : ℕ) :
    Host.gather weightGather (weight x t) (weightAt t) (at3 i y l) = weight x t (at19 (target t i y l).toNat) := by
  obtain ⟨T, hT, hTe, -⟩ := hG i y l
  rw [gather_weight (weight x t) (weightAt t) i y l T hT ((weightAt_apply x t hG i y l).trans hTe), hTe, BitVec.toNat_ofNat,
    Nat.mod_eq_of_lt (show T < 2 ^ 32 by omega)]

/-- The reference's result is the mean of the pixels' weighted cross entropies. -/
theorem mean_pixels (hG : Good x t) (j : S_.Idx) : (mean x t j : EReal) = Ideal.div
    (pixels fun i y l => (weight x t (at19 (target t i y l).toNat) : EReal) * ce (logits x i y l) (target t i y l)) (Ideal.ofBits .f32 0x4A000000#32) := by
  unfold mean
  exact mean_products (Host.gather weightGather (weight x t) (weightAt t)) (loss x t) 0x00000000#32 0x4A000000#32 Ideal.ofBits_zero_f32 j
    (A := fun i y l => weight x t (at19 (target t i y l).toNat)) (B := fun i y l => ce (logits x i y l) (target t i y l))
    (pixelWeight x t hG) (loss_apply x t hG)

/-- The reference's result is the loss. -/
theorem mean_eq (hG : Good x t) : mean x t = fun _ => lossValue x t := by
  funext j
  rw [mean_pixels x t hG, lossValue_pixels x t (fun i y l => (hG i y l).imp fun T h => ⟨h.1, h.2.1⟩) (fun c => weight x t (at19 c))
    (fun c hc => weight_apply x t hG hc)]

end Cert.ReferenceIdeal.Loss

end
-- ==== Proof.Pre.lean ====
/- The precondition read: at every pixel the target is a class, some logit is above minus infinity, the target's is below plus infinity, and no earlier class ties the target for it. -/
module

public import proofs.«01_k».proof.Pre_pre
public import proofs.«01_k».proof.Proof.Fiber
public import Idealize.ShloMosaic.Lib.Pipeline.Value

@[expose] public section

noncomputable section

namespace Cert.Pre_pre

open Idealize.ShloMosaic Cert.Loss Finset

/-- The precondition's shapes agree. -/
theorem facts : Facts where
  bcast_S8x512x512_S8x19x512x512_0_2_3 := by decide
  bcast_S_S8x19x512x512 := by decide
  reducesTo_S8x19x512x512_S8x512x512_d1 := by decide
  h_S_ := by decide

/-- A pixel's value spread over the classes. -/
theorem spread_apply {α : Type} (h : S8x512x512.BroadcastsInDim S8x19x512x512 (![0, 2, 3] : Fin 3 → Fin S8x19x512x512.rank)) (p : S8x512x512.Idx → α)
    (i y l c : ℕ) : broadcastInDim S8x19x512x512 ![0, 2, 3] h p (at4 i y l c) = p (at3 i y l) :=
  broadcastInDim_apply _ h p _ _ fun a => by
    match a with
    | ⟨0, _⟩ => rfl
    | ⟨1, _⟩ => rfl
    | ⟨2, _⟩ => rfl

/-- The condition at a pixel and a class, of its values: the logit, the class, the target, the largest logit, the target's logit. -/
def bit (v : EReal) (k T : BitVec 32) (top own lo hi : EReal) : BitVec 1 :=
  IntOp.andi (IntOp.andi (IntOp.andi (IntOp.andi (IntOp.cmpi .sge T 0#32) (IntOp.cmpi .slt T 19#32)) (Ideal.cmp .ogt top lo)) (Ideal.cmp .olt own hi))
    (IntOp.ori (IntOp.ori (Ideal.cmp .olt v top) (IntOp.cmpi .sge k T)) (Ideal.cmp .olt own top))

/-- A conjunction of bits is one exactly when both are. -/
theorem andi_one (a b : BitVec 1) : IntOp.andi a b = 1#1 ↔ a = 1#1 ∧ b = 1#1 := by
  revert a b
  decide

/-- A disjunction of bits is one exactly when one is. -/
theorem ori_one (a b : BitVec 1) : IntOp.ori a b = 1#1 ↔ a = 1#1 ∨ b = 1#1 := by
  revert a b
  decide

/-- A decided bit is one exactly when the proposition holds. -/
theorem ofBool_one (p : Prop) [Decidable p] : BitVec.ofBool (decide p) = 1#1 ↔ p := by
  by_cases h : p
  · rw [decide_eq_true h]
    exact ⟨fun _ => h, fun _ => rfl⟩
  · rw [decide_eq_false h]
    exact ⟨fun e => absurd e (by decide), fun e => absurd e h⟩

/-- The condition, as a proposition. -/
theorem bit_one (v : EReal) (k T : BitVec 32) (top own lo hi : EReal) (h : bit v k T top own lo hi = 1#1) :
    ((0 ≤ T.toInt ∧ T.toInt < 19) ∧ lo < top ∧ own < hi) ∧ ((v < top ∨ T.toInt ≤ k.toInt) ∨ own < top) := by
  unfold bit at h
  obtain ⟨h1, h2⟩ := (andi_one _ _).mp h
  obtain ⟨h1, h3⟩ := (andi_one _ _).mp h1
  obtain ⟨h1, h4⟩ := (andi_one _ _).mp h1
  obtain ⟨h1, h5⟩ := (andi_one _ _).mp h1
  refine ⟨⟨⟨(ofBool_one _).mp h1, (ofBool_one _).mp h5⟩, (ofBool_one _).mp h4, (ofBool_one _).mp h3⟩, ?_⟩
  rcases (ori_one _ _).mp h2 with h2 | h2
  · rcases (ori_one _ _).mp h2 with h2 | h2
    · exact .inl (.inl ((ofBool_one _).mp h2))
    · exact .inl (.inr ((ofBool_one _).mp h2))
  · exact .inr ((ofBool_one _).mp h2)

/-- A word between 0 and 18 is a class. -/
theorem class_of (T : BitVec 32) (h0 : 0 ≤ T.toInt) (h1 : T.toInt < 19) : ∃ n, n < 19 ∧ T = BitVec.ofNat 32 n := by
  refine ⟨T.toNat, ?_, (BitVec.ofNat_toNat 32 T).trans (BitVec.setWidth_eq T) |>.symm⟩
  rw [BitVec.toInt_eq_toNat_cond] at h0 h1
  have := T.isLt
  split at h0 <;> omega

variable [hF : Facts] (x : FVec Ideal S8x19x512x512 .f32) (t : IVec S8x512x512 32)

/-- The logits with every class but the target's at minus infinity. -/
def own (w : BitVec 32) : FVec Ideal S8x19x512x512 .f32 :=
  select (cmpi .eq (iotaInDim S8x19x512x512 32 1) (broadcastInDim S8x19x512x512 ![0, 2, 3] Facts.bcast_S8x512x512_S8x19x512x512_0_2_3 t)) x
    (broadcastInDim S8x19x512x512 ![] Facts.bcast_S_S8x19x512x512 (constant S_ .f32 w))

/-- One of them. -/
theorem own_apply (w : BitVec 32) (i y l c : ℕ) (hc : c < 19) : (own x t w (at4 i y l c) : EReal)
    = if BitVec.ofNat 32 c = target t i y l then logits x i y l c else Ideal.ofBits .f32 w := by
  have hs : own x t w (at4 i y l c) = Scalar.select (IntOp.cmpi .eq (BitVec.ofNat 32 (c % 19))
      (broadcastInDim S8x19x512x512 ![0, 2, 3] Facts.bcast_S8x512x512_S8x19x512x512_0_2_3 t (at4 i y l c))) (logits x i y l c) (Ideal.ofBits .f32 w) := rfl
  rw [hs, spread_apply, Nat.mod_eq_of_lt hc]
  show (if BitVec.ofBool (BitVec.ofNat 32 c == target t i y l) = 1#1 then _ else _) = _
  by_cases h : BitVec.ofNat 32 c = target t i y l
  · rw [if_pos h, h, beq_self_eq_true]
    rfl
  · rw [if_neg h, beq_eq_false_iff_ne.mpr h, if_neg (by decide)]

/-- The target's logit is the largest of them. -/
theorem best_own (i y l T : ℕ) (hT : T < 19) (hTe : target t i y l = BitVec.ofNat 32 T) :
    best (logits (own x t 0xFF800000#32) i y l) = logits x i y l T := by
  have hv : ∀ c, c < 19 → logits (own x t 0xFF800000#32) i y l c = if BitVec.ofNat 32 c = target t i y l then logits x i y l c else ⊥ := fun c hc => by
    rw [← ofBits_bot]
    exact own_apply x t _ i y l c hc
  refine le_antisymm (Finset.sup_le fun c hc => ?_) ?_
  · rw [hv c (mem_range.mp hc)]
    split
    · next h =>
      have : c = T := by
        have e := congrArg BitVec.toNat (h.trans hTe)
        have := mem_range.mp hc
        rw [BitVec.toNat_ofNat, BitVec.toNat_ofNat] at e
        omega
      rw [this]
    · exact bot_le
  · refine le_trans (le_of_eq ?_) (Finset.le_sup (f := logits (own x t 0xFF800000#32) i y l) (mem_range.mpr hT))
    rw [hv T hT, if_pos hTe.symm]

/-- The condition's operations at an index. -/
theorem ops_apply (X Top Own : FVec Ideal S8x19x512x512 .f32) (K T : IVec S8x19x512x512 32) (v w : BitVec 32) (j : S8x19x512x512.Idx) :
    andi (andi (andi (andi (cmpi .sge T (broadcastInDim S8x19x512x512 ![] Facts.bcast_S_S8x19x512x512 (constantI S_ 32 0#32)))
          (cmpi .slt T (broadcastInDim S8x19x512x512 ![] Facts.bcast_S_S8x19x512x512 (constantI S_ 32 19#32))))
        (cmpf .ogt Top (broadcastInDim S8x19x512x512 ![] Facts.bcast_S_S8x19x512x512 (constant (F := Ideal) S_ .f32 v))))
      (cmpf .olt Own (broadcastInDim S8x19x512x512 ![] Facts.bcast_S_S8x19x512x512 (constant (F := Ideal) S_ .f32 w))))
      (ori (ori (cmpf .olt X Top) (cmpi .sge K T)) (cmpf .olt Own Top)) j
      = bit (X j) (K j) (T j) (Top j) (Own j) (Ideal.ofBits .f32 v) (Ideal.ofBits .f32 w) := rfl

/-- A pixel's largest, spread over the classes. -/
def tops (z : FVec Ideal S8x19x512x512 .f32) : FVec Ideal S8x19x512x512 .f32 :=
  broadcastInDim S8x19x512x512 ![0, 2, 3] Facts.bcast_S8x512x512_S8x19x512x512_0_2_3
    (Host.reduce (FloatOps.maximumf (F := Ideal) (φ := .f32)) z (constant (F := Ideal) S_ .f32 0xFF800000#32) Facts.reducesTo_S8x19x512x512_S8x512x512_d1 Facts.h_S_)

/-- One of them. -/
theorem tops_apply (z : FVec Ideal S8x19x512x512 .f32) (i y l c : ℕ) : (tops z (at4 i y l c) : EReal) = best (logits z i y l) := by
  unfold tops
  rw [spread_apply]
  exact reduce_max z (constant (F := Ideal) S_ .f32 0xFF800000#32) _ _ constant_bot i y l

/-- The function at a pixel and a class. -/
theorem fn_apply (j : S8x19x512x512.Idx) : fn (F := Ideal) x t j
    = bit (x j) (iotaInDim S8x19x512x512 32 1 j) (broadcastInDim S8x19x512x512 ![0, 2, 3] Facts.bcast_S8x512x512_S8x19x512x512_0_2_3 t j)
      (tops x j) (tops (own x t 0xFF800000#32) j) (Ideal.ofBits .f32 0xFF800000#32) (Ideal.ofBits .f32 0x7F800000#32) := by
  rw [← ops_apply x (tops x) (tops (own x t 0xFF800000#32)) (iotaInDim S8x19x512x512 32 1)
    (broadcastInDim S8x19x512x512 ![0, 2, 3] Facts.bcast_S8x512x512_S8x19x512x512_0_2_3 t) 0xFF800000#32 0x7F800000#32 j]
  unfold tops own fn fn_part1
  rfl

/-- Where the function is one everywhere, every pixel is good. -/
theorem good (h : fn (F := Ideal) x t = fun _ => 1#1) : Good x t := fun i y l => by
  have hb : ∀ c, c < 19 → ((0 ≤ (target t i y l).toInt ∧ (target t i y l).toInt < 19) ∧ ⊥ < best (logits x i y l) ∧ best (logits (own x t 0xFF800000#32) i y l) < ⊤)
      ∧ ((logits x i y l c < best (logits x i y l) ∨ (target t i y l).toInt ≤ (BitVec.ofNat 32 c).toInt)
        ∨ best (logits (own x t 0xFF800000#32) i y l) < best (logits x i y l)) := fun c hc => by
    have e := congrFun h (at4 i y l c)
    rw [fn_apply, tops_apply, tops_apply, spread_apply, ofBits_bot, ofBits_top,
      show iotaInDim S8x19x512x512 32 1 (at4 i y l c) = BitVec.ofNat 32 c from congrArg (BitVec.ofNat 32) (Nat.mod_eq_of_lt hc)] at e
    exact bit_one _ _ _ _ _ _ _ e
  obtain ⟨⟨⟨h0, h1⟩, hlo, hhi⟩, -⟩ := hb 0 (by decide)
  obtain ⟨T, hT, hTe⟩ := class_of _ h0 h1
  rw [best_own x t i y l T hT hTe] at hhi
  refine ⟨T, hT, hTe, hlo.ne', hhi.ne, fun c hc => ?_⟩
  obtain ⟨-, h2⟩ := hb c (by omega)
  rw [best_own x t i y l T hT hTe] at h2
  rcases h2 with (h2 | h2) | h2
  · exact .inl h2
  · have hv : ∀ n, n < 19 → (BitVec.ofNat 32 n).toInt = (n : ℤ) := fun n hn => by interval_cases n <;> rfl
    rw [hTe, hv T hT, hv c (by omega)] at h2
    omega
  · exact .inr h2

end Cert.Pre_pre

end
-- ==== Proof.lean ====
/- The certificate: the frames of the three programs, that the idealization rewrote nothing, and that kernel and reference agree. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefMean
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments unchanged and every semaphore at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Loss.run (F := Ideal) m ρ)

/-- From the same arguments, where the precondition holds, kernel and reference end with the same loss. -/
theorem agree : Cert.algebraic_KernelIdeal_ReferenceIdeal_pre_pre (hKernelIdeal := Cert.KernelIdeal.Gen.facts)
    (hReferenceIdeal := Cert.ReferenceIdeal.Gen.facts) (hPre_pre := Cert.Pre_pre.facts) := by
  intro m ρ m' ρ' hpre hagree
  refine ⟨fun c => fun _ => Cert.Loss.lossValue (Cert.KernelIdeal.Loss.argX m c) (Cert.KernelIdeal.Loss.argT m c),
    Cert.KernelIdeal.Loss.run m ρ, ?_⟩
  refine (θ_run Cert.ReferenceIdeal.defs _ _).mono (fun _ h c => ⟨(h c).1.trans ?_, (h c).2⟩) (Cert.ReferenceIdeal.Loss.run (F := Ideal) m' ρ')
  rw [(hagree c).1, (hagree c).2]
  exact Cert.ReferenceIdeal.Loss.mean_eq _ _ (Cert.Pre_pre.good (hF := Cert.Pre_pre.facts) _ _ (hpre c))

/-- The certificate. -/
theorem claim : Cert.Claim := ⟨Cert.Kernel.Gen.facts, Cert.KernelIdeal.Gen.facts, Cert.ReferenceIdeal.Gen.facts, Cert.Pre_pre.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, agree⟩

end Cert.Proof

end
